-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_nonzero_divisor [hPre_nonzero_divisor : Cert.Pre_nonzero_divisor.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_divisor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_divisor [hPre_nonzero_divisor : Cert.Pre_nonzero_divisor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_divisor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonzero_divisor [hKernelIdeal : Cert.KernelIdeal.Facts] [hPre_nonzero_divisor : Cert.Pre_nonzero_divisor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_divisor m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonzero_divisor [hReferenceIdeal : Cert.ReferenceIdeal.Facts] [hPre_nonzero_divisor : Cert.Pre_nonzero_divisor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_divisor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonzero_divisor [hKernelIdeal : Cert.KernelIdeal.Facts] [hReferenceIdeal : Cert.ReferenceIdeal.Facts] [hPre_nonzero_divisor : Cert.Pre_nonzero_divisor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_divisor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_nonzero_divisor : Cert.Pre_nonzero_divisor.Facts),
    quiescent_Kernel (hKernel := hKernel) (hPre_in_range := hPre_in_range)
    ∧ quiescent_KernelIdeal (hKernelIdeal := hKernelIdeal) (hPre_in_range := hPre_in_range)
    ∧ quiescent_KernelIdeal_pre_nonzero_divisor (hKernelIdeal := hKernelIdeal) (hPre_nonzero_divisor := hPre_nonzero_divisor)
    ∧ quiescent_ReferenceIdeal (hReferenceIdeal := hReferenceIdeal)
    ∧ quiescent_ReferenceIdeal_pre_nonzero_divisor (hReferenceIdeal := hReferenceIdeal) (hPre_nonzero_divisor := hPre_nonzero_divisor)
    ∧ preserves_Kernel_KernelIdeal
    ∧ algebraic_KernelIdeal_ReferenceIdeal_pre_nonzero_divisor (hKernelIdeal := hKernelIdeal) (hReferenceIdeal := hReferenceIdeal) (hPre_nonzero_divisor := hPre_nonzero_divisor)
-- ==== Pre_in_range.lean ====
abbrev S16384x64 : Shape := ⟨2, ![16384, 64]⟩
abbrev S16384 : Shape := ⟨1, ![16384]⟩
abbrev S2097152 : Shape := ⟨1, ![2097152]⟩
abbrev S_ : Shape := ⟨0, ![]⟩

class Facts : Prop where
  bcast_S_S2097152 : S_.BroadcastsInDim S2097152 (![] : Fin 0 → Fin S2097152.rank)
  reducesTo_S2097152_S_d0 : S2097152.ReducesTo [0] S_
  h_S_ : 0 < S_.numel

variable [Facts]

def fn {F : FTy → Type} [FloatOps F] (main_arg0 : FVec F S16384x64 .f32) (main_arg1 : FVec F S16384 .f32) (main_arg2 : FVec F S16384 .f32) (main_arg3 : IVec S2097152 32) (main_arg4 : IVec S2097152 32) : IVec S_ 1 :=
  let main_c : IVec S_ 32 := constantI S_ 32 0#32
  let main_v0 : IVec S2097152 32 := broadcastInDim S2097152 ![] bcast_S_S2097152 main_c
  let main_v1 : IVec S2097152 1 := cmpi .sge main_arg3 main_v0
  let main_c_0 : IVec S_ 1 := constantI S_ 1 1#1
  let main_v2 : IVec S_ 1 := (fun x v => Host.reduce IntOp.andi x v reducesTo_S2097152_S_d0 h_S_) main_v1 main_c_0
  let main_c_1 : IVec S_ 32 := constantI S_ 32 16384#32
  let main_v3 : IVec S2097152 32 := broadcastInDim S2097152 ![] bcast_S_S2097152 main_c_1
  let main_v4 : IVec S2097152 1 := cmpi .slt main_arg3 main_v3
  let main_c_2 : IVec S_ 1 := constantI S_ 1 1#1
  let main_v5 : IVec S_ 1 := (fun x v => Host.reduce IntOp.andi x v reducesTo_S2097152_S_d0 h_S_) main_v4 main_c_2
  let main_v6 : IVec S_ 1 := andi main_v2 main_v5
  let main_c_3 : IVec S_ 32 := constantI S_ 32 0#32
  let main_v7 : IVec S2097152 32 := broadcastInDim S2097152 ![] bcast_S_S2097152 main_c_3
  let main_v8 : IVec S2097152 1 := cmpi .sge main_arg4 main_v7
  let main_c_4 : IVec S_ 1 := constantI S_ 1 1#1
  let main_v9 : IVec S_ 1 := (fun x v => Host.reduce IntOp.andi x v reducesTo_S2097152_S_d0 h_S_) main_v8 main_c_4
  let main_v10 : IVec S_ 1 := andi main_v6 main_v9
  let main_c_5 : IVec S_ 32 := constantI S_ 32 16384#32
  let main_v11 : IVec S2097152 32 := broadcastInDim S2097152 ![] bcast_S_S2097152 main_c_5
  let main_v12 : IVec S2097152 1 := cmpi .slt main_arg4 main_v11
  let main_c_6 : IVec S_ 1 := constantI S_ 1 1#1
  let main_v13 : IVec S_ 1 := (fun x v => Host.reduce IntOp.andi x v reducesTo_S2097152_S_d0 h_S_) main_v12 main_c_6
  let main_v14 : IVec S_ 1 := andi main_v10 main_v13
  main_v14
-- ==== Pre_nonzero_divisor.lean ====
abbrev S16384x64 : Shape := ⟨2, ![16384, 64]⟩
abbrev S16384 : Shape := ⟨1, ![16384]⟩
abbrev S2097152 : Shape := ⟨1, ![2097152]⟩
abbrev S_ : Shape := ⟨0, ![]⟩
abbrev S2097152x1 : Shape := ⟨2, ![2097152, 1]⟩
abbrev S1 : Shape := ⟨1, ![1]⟩
abbrev S1x1 : Shape := ⟨2, ![1, 1]⟩
abbrev S16384x1 : Shape := ⟨2, ![16384, 1]⟩

class Facts : Prop where
  bcast_S_S2097152 : S_.BroadcastsInDim S2097152 (![] : Fin 0 → Fin S2097152.rank)
  reducesTo_S2097152_S_d0 : S2097152.ReducesTo [0] S_
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S16384x1_S_d0_1 : S16384x1.ReducesTo [0, 1] S_
  gather_S16384_S2097152x1_S2097152_n_0_n_n_0_1_1_wf : GatherDims.WF S16384 S2097152x1 S2097152 [] [0] [] [0] [] 1 ![1]
  scatter_S16384_S2097152x1_S2097152_n_0_0_1_wf : ScatterDims.WF S16384 S2097152x1 S2097152 [] [0] [0] 1

variable [Facts]

def gather_S16384_S2097152x1_S2097152_n_0_n_n_0_1_1 : GatherDims S16384 S2097152x1 S2097152 where
  offsetDims := []
  collapsedSliceDims := [0]
  operandBatchingDims := []
  startIndicesBatchingDims := []
  startIndexMap := [0]
  indexVectorDim := 1
  sliceSizes := ![1]
  wf := gather_S16384_S2097152x1_S2097152_n_0_n_n_0_1_1_wf
def scatter_S16384_S2097152x1_S2097152_n_0_0_1 : ScatterDims S16384 S2097152x1 S2097152 where
  updateWindowDims := []
  insertedWindowDims := [0]
  scatterDimsToOperandDims := [0]
  indexVectorDim := 1
  wf := scatter_S16384_S2097152x1_S2097152_n_0_0_1_wf
def fn_where {F : FTy → Type} [FloatOps F] (arg0 : IVec S2097152 1) (arg1 : IVec S2097152 32) (arg2 : IVec S2097152 32) : IVec S2097152 32 :=
  let v0 : IVec S2097152 32 := select arg0 arg1 arg2
  v0

def fn_take {F : FTy → Type} [FloatOps F] (arg0 : FVec F S16384 .f32) (arg1 : IVec S2097152 32) : FVec F S2097152 .f32 :=
  let c : IVec S_ 32 := constantI S_ 32 0#32
  let v0 : IVec S2097152 32 := broadcastInDim S2097152 ![] bcast_S_S2097152 c
  let v1 : IVec S2097152 1 := cmpi .slt arg1 v0
  let c_0 : IVec S_ 32 := constantI S_ 32 16384#32
  let v2 : IVec S2097152 32 := broadcastInDim S2097152 ![] bcast_S_S2097152 c_0
  let v3 : IVec S2097152 32 := addi arg1 v2
  let v4 : IVec S2097152 32 := fn_where (F := F) v1 v3 arg1
  let v5 : IVec S2097152x1 32 := broadcastInDim S2097152x1 ![0] bcast_S2097152_S2097152x1_0 v4
  let c_1 : IVec S1 32 := constantI S1 32 16383#32
  let c_2 : IVec S_ 32 := constantI S_ 32 0#32
  let v6 : IVec S2097152x1 32 := broadcastInDim S2097152x1 ![] bcast_S_S2097152x1 c_2
  let v7 : IVec S2097152x1 1 := cmpi .sge v5 v6
  let v8 : IVec S1x1 32 := broadcastInDim S1x1 ![1] bcast_S1_S1x1_1 c_1
  let v9 : IVec S2097152x1 32 := broadcastInDim S2097152x1 ![0, 1] bcast_S1x1_S2097152x1_0_1 v8
  let v10 : IVec S2097152x1 1 := cmpi .sle v5 v9
  let v11 : IVec S2097152x1 1 := andi v7 v10
  let c_3 : IVec S_ 1 := constantI S_ 1 1#1
  let v12 : IVec S2097152 1 := (fun x v => Host.reduce IntOp.andi x v reducesTo_S2097152x1_S2097152_d1 h_S_) v11 c_3
  let v13 : FVec F S2097152 .f32 := (fun x i => Host.gather gather_S16384_S2097152x1_S2097152_n_0_n_n_0_1_1 x i) arg0 v5
  let cst : FVec F S_ .f32 := constant S_ .f32 0x7FC00000#32
  let v14 : FVec F S2097152 .f32 := broadcastInDim S2097152 ![] bcast_S_S2097152 cst
  let v15 : FVec F S2097152 .f32 := select v12 v13 v14
  v15

def fn_part1 {F : FTy → Type} [FloatOps F] (main_arg3 : IVec S2097152 32) (main_v14 : IVec S_ 1) (main_v15 : FVec F S2097152 .f32) : IVec S_ 1 :=
  let main_cst : FVec F S_ .f32 := constant S_ .f32 0x00000000#32
  let main_v16 : FVec F S16384 .f32 := broadcastInDim S16384 ![] bcast_S_S16384 main_cst
  let main_v17 : IVec S2097152x1 32 := broadcastInDim S2097152x1 ![0] bcast_S2097152_S2097152x1_0 main_arg3
  let main_v18 : FVec F S16384 .f32 := (fun x i u => Host.scatterAdd scatter_S16384_S2097152x1_S2097152_n_0_0_1 x i u) main_v16 main_v17 main_v15
  let main_v19 : FVec F S16384x1 .f32 := broadcastInDim S16384x1 ![0] bcast_S16384_S16384x1_0 main_v18
  let main_cst_7 : FVec F S_ .f32 := constant S_ .f32 0x358637BD#32
  let main_v20 : FVec F S16384x1 .f32 := broadcastInDim S16384x1 ![] bcast_S_S16384x1 main_cst_7
  let main_v21 : FVec F S16384x1 .f32 := addf main_v19 main_v20
  let main_cst_8 : FVec F S_ .f32 := constant S_ .f32 0x00000000#32
  let main_v22 : FVec F S16384x1 .f32 := broadcastInDim S16384x1 ![] bcast_S_S16384x1 main_cst_8
  let main_v23 : IVec S16384x1 1 := cmpf .une main_v21 main_v22
  let main_c_9 : IVec S_ 1 := constantI S_ 1 1#1
  let main_v24 : IVec S_ 1 := (fun x v => Host.reduce IntOp.andi x v reducesTo_S16384x1_S_d0_1 h_S_) main_v23 main_c_9
  let main_v25 : IVec S_ 1 := andi main_v14 main_v24
  main_v25

def fn {F : FTy → Type} [FloatOps F] (main_arg0 : FVec F S16384x64 .f32) (main_arg1 : FVec F S16384 .f32) (main_arg2 : FVec F S16384 .f32) (main_arg3 : IVec S2097152 32) (main_arg4 : IVec S2097152 32) : IVec S_ 1 :=
  let main_c : IVec S_ 32 := constantI S_ 32 0#32
  let main_v0 : IVec S2097152 32 := broadcastInDim S2097152 ![] bcast_S_S2097152 main_c
  let main_v1 : IVec S2097152 1 := cmpi .sge main_arg3 main_v0
  let main_c_0 : IVec S_ 1 := constantI S_ 1 1#1
  let main_v2 : IVec S_ 1 := (fun x v => Host.reduce IntOp.andi x v reducesTo_S2097152_S_d0 h_S_) main_v1 main_c_0
  let main_c_1 : IVec S_ 32 := constantI S_ 32 16384#32
  let main_v3 : IVec S2097152 32 := broadcastInDim S2097152 ![] bcast_S_S2097152 main_c_1
  let main_v4 : IVec S2097152 1 := cmpi .slt main_arg3 main_v3
  let main_c_2 : IVec S_ 1 := constantI S_ 1 1#1
  let main_v5 : IVec S_ 1 := (fun x v => Host.reduce IntOp.andi x v reducesTo_S2097152_S_d0 h_S_) main_v4 main_c_2
  let main_v6 : IVec S_ 1 := andi main_v2 main_v5
  let main_c_3 : IVec S_ 32 := constantI S_ 32 0#32
  let main_v7 : IVec S2097152 32 := broadcastInDim S2097152 ![] bcast_S_S2097152 main_c_3
  let main_v8 : IVec S2097152 1 := cmpi .sge main_arg4 main_v7
  let main_c_4 : IVec S_ 1 := constantI S_ 1 1#1
  let main_v9 : IVec S_ 1 := (fun x v => Host.reduce IntOp.andi x v reducesTo_S2097152_S_d0 h_S_) main_v8 main_c_4
  let main_v10 : IVec S_ 1 := andi main_v6 main_v9
  let main_c_5 : IVec S_ 32 := constantI S_ 32 16384#32
  let main_v11 : IVec S2097152 32 := broadcastInDim S2097152 ![] bcast_S_S2097152 main_c_5
  let main_v12 : IVec S2097152 1 := cmpi .slt main_arg4 main_v11
  let main_c_6 : IVec S_ 1 := constantI S_ 1 1#1
  let main_v13 : IVec S_ 1 := (fun x v => Host.reduce IntOp.andi x v reducesTo_S2097152_S_d0 h_S_) main_v12 main_c_6
  let main_v14 : IVec S_ 1 := andi main_v10 main_v13
  let main_v15 : FVec F S2097152 .f32 := fn_take (F := F) main_arg2 main_arg4
  fn_part1 (F := F) main_arg3 main_v14 main_v15
-- ==== Kernel.lean ====
abbrev S16384x64 : Shape := ⟨2, ![16384, 64]⟩
abbrev S16384 : Shape := ⟨1, ![16384]⟩
abbrev S2097152 : Shape := ⟨1, ![2097152]⟩
abbrev S32x16384 : Shape := ⟨2, ![32, 16384]⟩
abbrev S_ : Shape := ⟨0, ![]⟩
abbrev S16 : Shape := ⟨1, ![16]⟩
abbrev S1x16384 : Shape := ⟨2, ![1, 16384]⟩
abbrev S2048x64 : Shape := ⟨2, ![2048, 64]⟩
abbrev S32x2048 : Shape := ⟨2, ![32, 2048]⟩
abbrev S2048 : Shape := ⟨1, ![2048]⟩
abbrev S2048x1 : Shape := ⟨2, ![2048, 1]⟩

abbrev nBuf : Table → Nat
  | .hbm => 8
  | .local .tc .vmem => 8
  | .local .scVector .vmem => 6
  | _ => 0

abbrev bufTy : (tb : Table) → Fin (nBuf tb) → BufTy
  | .hbm, ⟨0, _⟩ => ⟨S16384x64, .f32⟩
  | .hbm, ⟨1, _⟩ => ⟨S16384, .f32⟩
  | .hbm, ⟨2, _⟩ => ⟨S16384, .f32⟩
  | .hbm, ⟨3, _⟩ => ⟨S2097152, .i32⟩
  | .hbm, ⟨4, _⟩ => ⟨S2097152, .i32⟩
  | .hbm, ⟨5, _⟩ => ⟨S32x16384, .f32⟩
  | .hbm, ⟨6, _⟩ => ⟨S32x16384, .f32⟩
  | .hbm, ⟨7, _⟩ => ⟨S16384x64, .f32⟩
  | .local .tc .vmem, ⟨0, _⟩ => ⟨S2048x64, .f32⟩
  | .local .tc .vmem, ⟨1, _⟩ => ⟨S2048x64, .f32⟩
  | .local .tc .vmem, ⟨2, _⟩ => ⟨S32x2048, .f32⟩
  | .local .tc .vmem, ⟨3, _⟩ => ⟨S32x2048, .f32⟩
  | .local .tc .vmem, ⟨4, _⟩ => ⟨S32x2048, .f32⟩
  | .local .tc .vmem, ⟨5, _⟩ => ⟨S32x2048, .f32⟩
  | .local .tc .vmem, ⟨6, _⟩ => ⟨S2048x64, .f32⟩
  | .local .tc .vmem, ⟨7, _⟩ => ⟨S2048x64, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | .local .scVector .vmem, ⟨4, _⟩ => ⟨S16384, .i32⟩
  | .local .scVector .vmem, ⟨5, _⟩ => ⟨S16384, .i32⟩
  | _, _ => ⟨S16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c1024_i32 : BitVec 32 := 1024#32
  let v2 : BitVec 32 := Scalar.addi c0_i32_0 c1024_i32
  let c1_i32 : BitVec 32 := 1#32
  ⟨c0_i32_0, v2, c1_i32⟩
def k0_off1 (k0_t1 : Fin k0_t1_loop.trips) : Fin 1 → Nat :=
  let c0_i32_0 : BitVec 32 := 0#32
  let c1_i32 : BitVec 32 := 1#32
  let arg14 : BitVec 32 := Scf.iv c0_i32_0 c1_i32 k0_t1
  let c16_i32 : BitVec 32 := 16#32
  let v18 : BitVec 32 := Scalar.muli arg14 c16_i32
  let v19 : Index := Scalar.indexCast v18
  ![v19.toNat]
def k0_off2 (i : grid0.Coords) (c0_i32_2 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v4 : BitVec 32 := Scalar.muli v1 c65536_i32
  let v5 : BitVec 32 := Scalar.addi v4 c0_i32_2
  ![v5.toNat]
@[reducible] def k0_t2_loop : Scf.Loop 32 :=
  let c0_i32_4 : BitVec 32 := 0#32
  let c1024_i32_5 : BitVec 32 := 1024#32
  let v6 : BitVec 32 := Scalar.addi c0_i32_4 c1024_i32_5
  let c1_i32_6 : BitVec 32 := 1#32
  ⟨c0_i32_4, v6, c1_i32_6⟩
def k0_off3 (k0_t2 : Fin k0_t2_loop.trips) : Fin 1 → Nat :=
  let c0_i32_4 : BitVec 32 := 0#32
  let c1_i32_6 : BitVec 32 := 1#32
  let arg14 : BitVec 32 := Scf.iv c0_i32_4 c1_i32_6 k0_t2
  let c16_i32 : BitVec 32 := 16#32
  let v17 : BitVec 32 := Scalar.muli arg14 c16_i32
  let v18 : Index := Scalar.indexCast v17
  ![v18.toNat]

def k0_chk1 (v24 : IVec S16 32) : Prop :=
  (∀ a x, ((![v24] : Fin 1 → IVec S16 32) a x).toNat < S16384.size a) ∧
  (∀ a x, ((![v24] : Fin 1 → IVec S16 32) a x).toNat < S16384.size a)
theorem k0_idx1_inb : ∀ (v24 : IVec S16 32) (k0_hw1 : k0_chk1 v24), ∀ a x, ((![v24] : Fin 1 → IVec S16 32) a x).toNat < S16384.size a := fun v24 k0_hw1 => k0_hw1.1
theorem k0_idx2_inb : ∀ (v24 : IVec S16 32) (k0_hw1 : k0_chk1 v24), ∀ a x, ((![v24] : Fin 1 → IVec S16 32) a x).toNat < S16384.size a := fun v24 k0_hw1 => k0_hw1.2

def k0_chk2 (v20 : IVec S16 32) : Prop :=
  (∀ a x, ((![v20] : Fin 1 → IVec S16 32) a x).toNat < S16384.size a) ∧
  (∀ a x, ((![v20] : Fin 1 → IVec S16 32) a x).toNat < S16384.size a)
theorem k0_idx3_inb : ∀ (v20 : IVec S16 32) (k0_hw2 : k0_chk2 v20), ∀ a x, ((![v20] : Fin 1 → IVec S16 32) a x).toNat < S16384.size a := fun v20 k0_hw2 => k0_hw2.1
theorem k0_idx4_inb : ∀ (v20 : IVec S16 32) (k0_hw2 : k0_chk2 v20), ∀ a x, ((![v20] : Fin 1 → IVec S16 32) a x).toNat < S16384.size a := fun v20 k0_hw2 => k0_hw2.2
@[reducible] def k0_t3_loop : Scf.Loop 32 :=
  let c0_i32_9 : BitVec 32 := 0#32
  let c1024_i32_10 : BitVec 32 := 1024#32
  let v9 : BitVec 32 := Scalar.addi c0_i32_9 c1024_i32_10
  let c1_i32_11 : BitVec 32 := 1#32
  ⟨c0_i32_9, v9, c1_i32_11⟩
def k0_off4 (k0_t3 : Fin k0_t3_loop.trips) : Fin 1 → Nat :=
  let c0_i32_9 : BitVec 32 := 0#32
  let c1_i32_11 : BitVec 32 := 1#32
  let arg14 : BitVec 32 := Scf.iv c0_i32_9 c1_i32_11 k0_t3
  let c16_i32 : BitVec 32 := 16#32
  let v17 : BitVec 32 := Scalar.muli arg14 c16_i32
  let v18 : Index := Scalar.indexCast v17
  ![v18.toNat]

def k0_chk3 (v24 : IVec S16 32) : Prop :=
  (∀ a x, ((![v24] : Fin 1 → IVec S16 32) a x).toNat < S16384.size a) ∧
  (∀ a x, ((![v24] : Fin 1 → IVec S16 32) a x).toNat < S16384.size a)
theorem k0_idx5_inb : ∀ (v24 : IVec S16 32) (k0_hw3 : k0_chk3 v24), ∀ a x, ((![v24] : Fin 1 → IVec S16 32) a x).toNat < S16384.size a := fun v24 k0_hw3 => k0_hw3.1
theorem k0_idx6_inb : ∀ (v24 : IVec S16 32) (k0_hw3 : k0_chk3 v24), ∀ a x, ((![v24] : Fin 1 → IVec S16 32) a x).toNat < S16384.size a := fun v24 k0_hw3 => k0_hw3.2

def k0_chk4 (v20 : IVec S16 32) : Prop :=
  (∀ a x, ((![v20] : Fin 1 → IVec S16 32) a x).toNat < S16384.size a) ∧
  (∀ a x, ((![v20] : Fin 1 → IVec S16 32) a x).toNat < S16384.size a)
theorem k0_idx7_inb : ∀ (v20 : IVec S16 32) (k0_hw4 : k0_chk4 v20), ∀ a x, ((![v20] : Fin 1 → IVec S16 32) a x).toNat < S16384.size a := fun v20 k0_hw4 => k0_hw4.1
theorem k0_idx8_inb : ∀ (v20 : IVec S16 32) (k0_hw4 : k0_chk4 v20), ∀ a x, ((![v20] : Fin 1 → IVec S16 32) a x).toNat < S16384.size a := fun v20 k0_hw4 => k0_hw4.2
@[reducible] def k0_t4_loop : Scf.Loop 32 :=
  let c0_i32_14 : BitVec 32 := 0#32
  let c1024_i32_15 : BitVec 32 := 1024#32
  let v12 : BitVec 32 := Scalar.addi c0_i32_14 c1024_i32_15
  let c1_i32_16 : BitVec 32 := 1#32
  ⟨c0_i32_14, v12, c1_i32_16⟩
def k0_off5 (k0_t4 : Fin k0_t4_loop.trips) : Fin 1 → Nat :=
  let c0_i32_14 : BitVec 32 := 0#32
  let c1_i32_16 : BitVec 32 := 1#32
  let arg14 : BitVec 32 := Scf.iv c0_i32_14 c1_i32_16 k0_t4
  let c16_i32 : BitVec 32 := 16#32
  let v17 : BitVec 32 := Scalar.muli arg14 c16_i32
  let v18 : Index := Scalar.indexCast v17
  ![v18.toNat]

def k0_chk5 (v24 : IVec S16 32) : Prop :=
  (∀ a x, ((![v24] : Fin 1 → IVec S16 32) a x).toNat < S16384.size a) ∧
  (∀ a x, ((![v24] : Fin 1 → IVec S16 32) a x).toNat < S16384.size a)
theorem k0_idx9_inb : ∀ (v24 : IVec S16 32) (k0_hw5 : k0_chk5 v24), ∀ a x, ((![v24] : Fin 1 → IVec S16 32) a x).toNat < S16384.size a := fun v24 k0_hw5 => k0_hw5.1
theorem k0_idx10_inb : ∀ (v24 : IVec S16 32) (k0_hw5 : k0_chk5 v24), ∀ a x, ((![v24] : Fin 1 → IVec S16 32) a x).toNat < S16384.size a := fun v24 k0_hw5 => k0_hw5.2

def k0_chk6 (v20 : IVec S16 32) : Prop :=
  (∀ a x, ((![v20] : Fin 1 → IVec S16 32) a x).toNat < S16384.size a) ∧
  (∀ a x, ((![v20] : Fin 1 → IVec S16 32) a x).toNat < S16384.size a)
theorem k0_idx11_inb : ∀ (v20 : IVec S16 32) (k0_hw6 : k0_chk6 v20), ∀ a x, ((![v20] : Fin 1 → IVec S16 32) a x).toNat < S16384.size a := fun v20 k0_hw6 => k0_hw6.1
theorem k0_idx12_inb : ∀ (v20 : IVec S16 32) (k0_hw6 : k0_chk6 v20), ∀ a x, ((![v20] : Fin 1 → IVec S16 32) a x).toNat < S16384.size a := fun v20 k0_hw6 => k0_hw6.2
@[reducible] def k0_t5_loop : Scf.Loop 32 :=
  let c0_i32_19 : BitVec 32 := 0#32
  let c1024_i32_20 : BitVec 32 := 1024#32
  let v15 : BitVec 32 := Scalar.addi c0_i32_19 c1024_i32_20
  let c1_i32_21 : BitVec 32 := 1#32
  ⟨c0_i32_19, v15, c1_i32_21⟩
def k0_off6 (k0_t5 : Fin k0_t5_loop.trips) : Fin 1 → Nat :=
  let c0_i32_19 : BitVec 32 := 0#32
  let c1_i32_21 : BitVec 32 := 1#32
  let arg14 : BitVec 32 := Scf.iv c0_i32_19 c1_i32_21 k0_t5
  let c16_i32 : BitVec 32 := 16#32
  let v17 : BitVec 32 := Scalar.muli arg14 c16_i32
  let v18 : Index := Scalar.indexCast v17
  ![v18.toNat]

def k0_chk7 (v24 : IVec S16 32) : Prop :=
  (∀ a x, ((![v24] : Fin 1 → IVec S16 32) a x).toNat < S16384.size a) ∧
  (∀ a x, ((![v24] : Fin 1 → IVec S16 32) a x).toNat < S16384.size a)
theorem k0_idx13_inb : ∀ (v24 : IVec S16 32) (k0_hw7 : k0_chk7 v24), ∀ a x, ((![v24] : Fin 1 → IVec S16 32) a x).toNat < S16384.size a := fun v24 k0_hw7 => k0_hw7.1
theorem k0_idx14_inb : ∀ (v24 : IVec S16 32) (k0_hw7 : k0_chk7 v24), ∀ a x, ((![v24] : Fin 1 → IVec S16 32) a x).toNat < S16384.size a := fun v24 k0_hw7 => k0_hw7.2

def k0_chk8 (v20 : IVec S16 32) : Prop :=
  (∀ a x, ((![v20] : Fin 1 → IVec S16 32) a x).toNat < S16384.size a) ∧
  (∀ a x, ((![v20] : Fin 1 → IVec S16 32) a x).toNat < S16384.size a)
theorem k0_idx15_inb : ∀ (v20 : IVec S16 32) (k0_hw8 : k0_chk8 v20), ∀ a x, ((![v20] : Fin 1 → IVec S16 32) a x).toNat < S16384.size a := fun v20 k0_hw8 => k0_hw8.1
theorem k0_idx16_inb : ∀ (v20 : IVec S16 32) (k0_hw8 : k0_chk8 v20), ∀ a x, ((![v20] : Fin 1 → IVec S16 32) a x).toNat < S16384.size a := fun v20 k0_hw8 => k0_hw8.2
def k0_off7 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_23_r10 : BitVec 32 := 0#32
  ![v1.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x64 : Shape := ⟨2, ![16384, 64]⟩
abbrev S16384 : Shape := ⟨1, ![16384]⟩
abbrev S2097152 : Shape := ⟨1, ![2097152]⟩
abbrev S_ : Shape := ⟨0, ![]⟩
abbrev S2097152x1 : Shape := ⟨2, ![2097152, 1]⟩
abbrev S1 : Shape := ⟨1, ![1]⟩
abbrev S1x1 : Shape := ⟨2, ![1, 1]⟩
abbrev S16384x1 : Shape := ⟨2, ![16384, 1]⟩

abbrev nBuf : Space → Nat
  | .hbm => 67
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384, .f32⟩
  | .hbm, ⟨2, _⟩ => ⟨S16384, .f32⟩
  | .hbm, ⟨3, _⟩ => ⟨S2097152, .i32⟩
  | .hbm, ⟨4, _⟩ => ⟨S2097152, .i32⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S1, .i32⟩
  | .hbm, ⟨14, _⟩ => ⟨S_, .i32⟩
  | .hbm, ⟨15, _⟩ => ⟨S2097152x1, .i32⟩
  | .hbm, ⟨16, _⟩ => ⟨S2097152x1, .i1⟩
  | .hbm, ⟨17, _⟩ => ⟨S1x1, .i32⟩
  | .hbm, ⟨18, _⟩ => ⟨S2097152x1, .i32⟩
  | .hbm, ⟨19, _⟩ => ⟨S2097152x1, .i1⟩
  | .hbm, ⟨20, _⟩ => ⟨S2097152x1, .i1⟩
  | .hbm, ⟨21, _⟩ => ⟨S_, .i1⟩
  | .hbm, ⟨22, _⟩ => ⟨S2097152, .i1⟩
  | .hbm, ⟨23, _⟩ => ⟨S2097152, .f32⟩
  | .hbm, ⟨24, _⟩ => ⟨S_, .f32⟩
  | .hbm, ⟨25, _⟩ => ⟨S2097152, .f32⟩
  | .hbm, ⟨26, _⟩ => ⟨S2097152, .f32⟩
  | .hbm, ⟨27, _⟩ => ⟨S_, .f32⟩
  | .hbm, ⟨28, _⟩ => ⟨S16384, .f32⟩
  | .hbm, ⟨29, _⟩ => ⟨S2097152x1, .i32⟩
  | .hbm, ⟨30, _⟩ => ⟨S16384, .f32⟩
  | .hbm, ⟨31, _⟩ => ⟨S16384x1, .f32⟩
  | .hbm, ⟨32, _⟩ => ⟨S_, .i32⟩
  | .hbm, ⟨33, _⟩ => ⟨S2097152, .i32⟩
  | .hbm, ⟨34, _⟩ => ⟨S2097152, .i1⟩
  | .hbm, ⟨35, _⟩ => ⟨S_, .i32⟩
  | .hbm, ⟨36, _⟩ => ⟨S2097152, .i32⟩
  | .hbm, ⟨37, _⟩ => ⟨S2097152, .i32⟩
  | .hbm, ⟨38, _⟩ => ⟨S2097152, .i32⟩
  | .hbm, ⟨39, _⟩ => ⟨S2097152x1, .i32⟩
  | .hbm, ⟨40, _⟩ => ⟨S1, .i32⟩
  | .hbm, ⟨41, _⟩ => ⟨S_, .i32⟩
  | .hbm, ⟨42, _⟩ => ⟨S2097152x1, .i32⟩
  | .hbm, ⟨43, _⟩ => ⟨S2097152x1, .i1⟩
  | .hbm, ⟨44, _⟩ => ⟨S1x1, .i32⟩
  | .hbm, ⟨45, _⟩ => ⟨S2097152x1, .i32⟩
  | .hbm, ⟨46, _⟩ => ⟨S2097152x1, .i1⟩
  | .hbm, ⟨47, _⟩ => ⟨S2097152x1, .i1⟩
  | .hbm, ⟨48, _⟩ => ⟨S_, .i1⟩
  | .hbm, ⟨49, _⟩ => ⟨S2097152, .i1⟩
  | .hbm, ⟨50, _⟩ => ⟨S2097152, .f32⟩
  | .hbm, ⟨51, _⟩ => ⟨S_, .f32⟩
  | .hbm, ⟨52, _⟩ => ⟨S2097152, .f32⟩
  | .hbm, ⟨53, _⟩ => ⟨S2097152, .f32⟩
  | .hbm, ⟨54, _⟩ => ⟨S_, .f32⟩
  | .hbm, ⟨55, _⟩ => ⟨S16384, .f32⟩
  | .hbm, ⟨56, _⟩ => ⟨S2097152x1, .i32⟩
  | .hbm, ⟨57, _⟩ => ⟨S16384, .f32⟩
  | .hbm, ⟨58, _⟩ => ⟨S16384x1, .f32⟩
  | .hbm, ⟨59, _⟩ => ⟨S16384x64, .f32⟩
  | .hbm, ⟨60, _⟩ => ⟨S16384x64, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x64, .f32⟩
  | .hbm, ⟨66, _⟩ => ⟨S16384x64, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v5 : Ref sig .tc := ⟨.hbm, 53, rfl⟩
abbrev main_cst_0 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_cst_1 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩

abbrev nD : Nat := 1
abbrev τ : Topo := Topo.v7x

variable {F : FTy → Type} [FloatOps F]
-- ==== Proof.Ranges.lean ====
/-
  The two preconditions read back: what `in_range` and `nonzero_divisor`, printed as functions of the argument arrays,
  say of their elements, over any float instance.
-/
module

public import proofs.«01_k».proof.Proof.Gen.Pre_in_range
public import proofs.«01_k».proof.Proof.Gen.Pre_nonzero_divisor
public import Idealize.ShloMosaic.Lib.ReduceAll
public import Idealize.ShloMosaic.Lib.WordCmp
public import Idealize.ShloMosaic.Lib.ValueIdx

@[expose] public section

noncomputable section

namespace Cert.Ranges

open Idealize.ShloMosaic Idealize.ShloMosaic.ValueIdx

variable {F : FTy → Type} [FloatOps F]

/-- The two comparisons of a word that hold together put it below 16384. -/
theorem below {v : BitVec 32} (h0 : IntOp.cmpi .sge v 0#32 = 1#1) (h1 : IntOp.cmpi .slt v 16384#32 = 1#1) : v.toNat < 16384 := by
  have h := WordCmp.andi_sge_zero_slt_ofNat (w := 32) (k := 16384) (by decide) v
  rw [h0, show BitVec.ofNat 32 16384 = 16384#32 from rfl, h1] at h
  by_contra hn
  rw [decide_eq_false hn] at h
  exact absurd h (by decide)

instance : Subsingleton (Cert.Pre_in_range.S_).Idx := ⟨fun a b => funext fun k => k.elim0⟩
instance : Subsingleton (Cert.Pre_nonzero_divisor.S_).Idx := ⟨fun a b => funext fun k => k.elim0⟩

/-- `in_range` holds: every row and every column word is below 16384. -/
theorem of_in_range {x : FVec F Cert.Pre_in_range.S16384x64 .f32} {mean var : FVec F Cert.Pre_in_range.S16384 .f32}
    {row col : IVec Cert.Pre_in_range.S2097152 32}
    (h : Cert.Pre_in_range.fn (F := F) x mean var row col = fun _ => 1#1) :
    (∀ j, (row j).toNat < 16384) ∧ ∀ j, (col j).toNat < 16384 := by
  have h := congrFun h ix0
  obtain ⟨h10, h13⟩ := IntOp.andi_eq_one.1 h
  obtain ⟨h6, h9⟩ := IntOp.andi_eq_one.1 h10
  obtain ⟨h2, h5⟩ := IntOp.andi_eq_one.1 h6
  exact ⟨fun j => below (Host.reduce_andi_all _ _ _ _ _ h2 j) (Host.reduce_andi_all _ _ _ _ _ h5 j),
    fun j => below (Host.reduce_andi_all _ _ _ _ _ h9 j) (Host.reduce_andi_all _ _ _ _ _ h13 j)⟩

/-- `nonzero_divisor` holds: every row and every column word is below 16384, and its own test holds too. -/
theorem of_nonzero_divisor {x : FVec F Cert.Pre_nonzero_divisor.S16384x64 .f32} {mean var : FVec F Cert.Pre_nonzero_divisor.S16384 .f32}
    {row col : IVec Cert.Pre_nonzero_divisor.S2097152 32}
    (h : Cert.Pre_nonzero_divisor.fn (F := F) x mean var row col = fun _ => 1#1) :
    ((∀ j, (row j).toNat < 16384) ∧ ∀ j, (col j).toNat < 16384)
      ∧ ∀ j : (Cert.Pre_nonzero_divisor.S16384x1).Idx, FloatOps.cmpf .une
          (FloatOps.addf (broadcastInDim Cert.Pre_nonzero_divisor.S16384x1 ![0] Cert.Pre_nonzero_divisor.Facts.bcast_S16384_S16384x1_0
            (Host.scatterAdd Cert.Pre_nonzero_divisor.scatter_S16384_S2097152x1_S2097152_n_0_0_1
              (broadcastInDim Cert.Pre_nonzero_divisor.S16384 ![] Cert.Pre_nonzero_divisor.Facts.bcast_S_S16384 (constant Cert.Pre_nonzero_divisor.S_ .f32 0x00000000#32))
              (broadcastInDim Cert.Pre_nonzero_divisor.S2097152x1 ![0] Cert.Pre_nonzero_divisor.Facts.bcast_S2097152_S2097152x1_0 row)
              (Cert.Pre_nonzero_divisor.fn_take (F := F) var col)) j) (Scalar.ofBits .f32 0x358637BD#32))
          (Scalar.ofBits (F := F) .f32 0x00000000#32) = 1#1 := by
  have h := congrFun h ix0
  obtain ⟨h14, h24⟩ := IntOp.andi_eq_one.1 h
  obtain ⟨h10, h13⟩ := IntOp.andi_eq_one.1 h14
  obtain ⟨h6, h9⟩ := IntOp.andi_eq_one.1 h10
  obtain ⟨h2, h5⟩ := IntOp.andi_eq_one.1 h6
  exact ⟨⟨fun j => below (Host.reduce_andi_all _ _ _ _ _ h2 j) (Host.reduce_andi_all _ _ _ _ _ h5 j),
    fun j => below (Host.reduce_andi_all _ _ _ _ _ h9 j) (Host.reduce_andi_all _ _ _ _ _ h13 j)⟩,
    fun j => Host.reduce_andi_all _ _ _ _ _ h24 j⟩

end Cert.Ranges

end
-- ==== Proof.EdgeSums.lean ====
/-
  What one vector subcore leaves in its two accumulators, as a function of the values and of the connectivity alone:
  starting from zeros, sixteen edges at a time, the values found at the edges' columns are added at the edges' rows.
  Nothing here is the kernel's: both printed programs (the one over the chip's floats and the one over the ideal
  numbers) are shown elsewhere to leave these sums.
-/
module

public import Idealize.ShloMosaic.Lib.ValueIdx
public import Idealize.ShloMosaic.Lib.SparseCore.Ops
public import Idealize.ShloMosaic.Lib.Pipeline.Value

@[expose] public section

noncomputable section

namespace Cert.EdgeSums

open Idealize.ShloMosaic Idealize.ShloMosaic.ValueIdx

variable {F : FTy → Type} [FloatOps F]

abbrev Neurons : Shape := ⟨1, ![16384]⟩
abbrev Edges : Shape := ⟨1, ![2097152]⟩
abbrev Parts : Shape := ⟨2, ![32, 16384]⟩

/-- Sixteen consecutive entries of a list of words, from entry `n` on (counted round the end of the list). -/
def lanes {N : Nat} [NeZero N] (v : IVec ⟨1, ![N]⟩ 32) (n : Nat) : IVec ⟨1, ![16]⟩ 32 :=
  fun x => v (ix1 (Fin.ofNat N (n + (x 0).val)))

theorem lanes_lt {N : Nat} [NeZero N] {v : IVec ⟨1, ![N]⟩ 32} (h : ∀ j, (v j).toNat < 16384) (n : Nat) :
    ∀ a x, ((![lanes v n] : Fin 1 → IVec ⟨1, ![16]⟩ 32) a x).toNat < Neurons.size a := fun
  | 0, _ => h _

/-- The sixteen edges from edge `n` on, added into `g`: `val` at each edge's column, at the edge's row. -/
def addLanes {N : Nat} [NeZero N] (val : Vec F Neurons .f32) (row col : IVec ⟨1, ![N]⟩ 32) (hr : ∀ j, (row j).toNat < 16384)
    (hc : ∀ j, (col j).toNat < 16384) (n : Nat) (g : Vec F Neurons .f32) : Vec F Neurons .f32 :=
  storeIdx g ![lanes row n] (loadIdx val ![lanes col n] (lanes_lt hc n)) (fun _ => 1#1) true (lanes_lt hr n)

/-- A cast of the sixteen words to their own shape leaves them below the bound. -/
theorem lanes_cast_lt {N : Nat} [NeZero N] {v : IVec ⟨1, ![N]⟩ 32} (h : ∀ j, (v j).toNat < 16384) (n : Nat) {hs : (⟨1, ![16]⟩ : Shape).ShapeCasts ⟨1, ![16]⟩} :
    ∀ a x, ((![shapeCast ⟨1, ![16]⟩ (lanes v n) hs] : Fin 1 → IVec ⟨1, ![16]⟩ 32) a x).toNat < Neurons.size a := fun
  | 0, _ => h _

/-- The step, with the words cast to their own shape, as the kernel writes it. -/
theorem addLanes_cast {N : Nat} [NeZero N] (val : Vec F Neurons .f32) (row col : IVec ⟨1, ![N]⟩ 32) (hr : ∀ j, (row j).toNat < 16384)
    (hc : ∀ j, (col j).toNat < 16384) (n : Nat) (g : Vec F Neurons .f32) {hs hs' : (⟨1, ![16]⟩ : Shape).ShapeCasts ⟨1, ![16]⟩} :
    storeIdx g ![shapeCast ⟨1, ![16]⟩ (lanes row n) hs] (loadIdx val ![shapeCast ⟨1, ![16]⟩ (lanes col n) hs'] (lanes_cast_lt hc n))
        (fun _ => 1#1) true (lanes_cast_lt hr n)
      = addLanes val row col hr hc n g := by
  have key : ∀ (r r' c c' : IVec ⟨1, ![16]⟩ 32) (hr hr' hc hc'), r = r' → c = c' →
      storeIdx g ![r] (loadIdx val ![c] hc) (fun _ => 1#1) true hr = storeIdx g ![r'] (loadIdx val ![c'] hc') (fun _ => 1#1) true hr' := by
    rintro r _ c _ _ _ _ _ rfl rfl; rfl
  exact key _ _ _ _ _ _ _ _ (shapeCast_self _ _) (shapeCast_self _ _)

/-- The accumulator after `k` steps of sixteen edges, from edge `start` on. -/
def accum (val : Vec F Neurons .f32) (row col : IVec Edges 32) (hr : ∀ j, (row j).toNat < 16384)
    (hc : ∀ j, (col j).toNat < 16384) (start : Nat) : Nat → Vec F Neurons .f32
  | 0 => fun _ => Scalar.ofBits .f32 0x00000000#32
  | k + 1 => addLanes val row col hr hc (start + 16 * k) (accum val row col hr hc start k)

/-- Row `w` of the array of partial sums: the accumulator after the 65536 edges of the subcore numbered `w`. -/
def parts (val : Vec F Neurons .f32) (row col : IVec Edges 32) (hr : ∀ j, (row j).toNat < 16384)
    (hc : ∀ j, (col j).toNat < 16384) : Vec F Parts .f32 :=
  fun j => accum val row col hr hc (65536 * (j 0).val) 4096 (ix1 (j 1))

/-- Chunk `b` of the edges: the 16384 entries from entry `b` on. -/
def chunk (v : IVec Edges 32) (b : Nat) : IVec ⟨1, ![16384]⟩ 32 := fun x => v (ix1 (Fin.ofNat 2097152 (b + (x 0).val)))

theorem lanes_chunk (v : IVec Edges 32) (b n : Nat) (hn : n + 16 ≤ 16384) : lanes (chunk v b) n = lanes v (b + n) := by
  funext x
  show v (ix1 (Fin.ofNat 2097152 (b + (n + (x 0).val) % 16384))) = v (ix1 (Fin.ofNat 2097152 (b + n + (x 0).val)))
  have hx : (x 0).val < 16 := (x 0).isLt
  rw [Nat.mod_eq_of_lt (by omega), ← Nat.add_assoc]

theorem chunk_lt {v : IVec Edges 32} (h : ∀ j, (v j).toNat < 16384) (b : Nat) : ∀ j, (chunk v b j).toNat < 16384 := fun _ => h _

/-- One step over a chunk is one step over the edges. -/
theorem addLanes_chunk (val : Vec F Neurons .f32) (row col : IVec Edges 32) (hr : ∀ j, (row j).toNat < 16384)
    (hc : ∀ j, (col j).toNat < 16384) (b n : Nat) (hn : n + 16 ≤ 16384) (g : Vec F Neurons .f32) :
    addLanes val (chunk row b) (chunk col b) (chunk_lt hr b) (chunk_lt hc b) n g = addLanes val row col hr hc (b + n) g := by
  have key : ∀ (r r' c c' : IVec ⟨1, ![16]⟩ 32) (hr hr' hc hc'), r = r' → c = c' →
      storeIdx g ![r] (loadIdx val ![c] hc) (fun _ => 1#1) true hr = storeIdx g ![r'] (loadIdx val ![c'] hc') (fun _ => 1#1) true hr' := by
    rintro r _ c _ _ _ _ _ rfl rfl; rfl
  exact key _ _ _ _ _ _ _ _ (lanes_chunk row b n hn) (lanes_chunk col b n hn)

end Cert.EdgeSums

end
-- ==== Proof.TileKernelIdeal.lean ====
/-
  The vector subcores' task, over any float instance: what one subcore is given (its shares of the four arrays it
  reads, its row of each array of partial sums), and that it brings the row back holding the partial sums of
  `EdgeSums.parts`. Its loops carry the accumulators' values: after `k` trips of chunk `r` they are
  `EdgeSums.accum` at step `1024 * r + k`.
-/
module

public import proofs.«01_k».proof.Defs
public import Idealize.ShloMosaic.Lib.SparseCore.Quiescent
public import Idealize.ShloMosaic.Lib.SparseCore.Ops
public import Idealize.ShloMosaic.Lib.SparseCore.FromWhole
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.EdgeSums

@[expose] public section

noncomputable section

namespace Cert.Proof.OfKernelIdeal

open Cert.KernelIdeal Cert.KernelIdeal.Gen
open Cert.EdgeSums

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The rounds of the TensorCore pipeline's staging cells. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The subcore and what it addresses -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev meanV : Memref sig .scVector .hbm S16384 .f32 := Memref.whole main_arg1_scv
abbrev varV : Memref sig .scVector .hbm S16384 .f32 := Memref.whole main_arg2_scv
abbrev rowV : Memref sig .scVector .hbm S2097152 .i32 := Memref.whole main_arg3_scv
abbrev colV : Memref sig .scVector .hbm S2097152 .i32 := Memref.whole main_arg4_scv
abbrev mpV : Memref sig .scVector .hbm S32x16384 .f32 := Memref.whole main_v0_0_scv
abbrev vpV : Memref sig .scVector .hbm S32x16384 .f32 := Memref.whole main_v0_1_scv
abbrev sMean : Memref sig .scVector .vmem S16384 .f32 := Memref.whole cc0_scratch0
abbrev sVar : Memref sig .scVector .vmem S16384 .f32 := Memref.whole cc0_scratch1
abbrev sMacc : Memref sig .scVector .vmem S16384 .f32 := Memref.whole cc0_scratch2
abbrev sVacc : Memref sig .scVector .vmem S16384 .f32 := Memref.whole cc0_scratch3
abbrev sRow : Memref sig .scVector .vmem S16384 .i32 := Memref.whole cc0_scratch4
abbrev sCol : Memref sig .scVector .vmem S16384 .i32 := Memref.whole cc0_scratch5

section Tile

variable (d : Dev nD) (L : grid0.Coords)

abbrev meanP (q : PosShare TreeShare) (f : Vec F S16384 .f32) : sProp 𝕄 := (meanV).view.loc (thr d L) ↦{q} f
abbrev varP (q : PosShare TreeShare) (f : Vec F S16384 .f32) : sProp 𝕄 := (varV).view.loc (thr d L) ↦{q} f
abbrev rowP (q : PosShare TreeShare) (f : IVec S2097152 32) : sProp 𝕄 := (rowV).view.loc (thr d L) ↦{q} f
abbrev colP (q : PosShare TreeShare) (f : IVec S2097152 32) : sProp 𝕄 := (colV).view.loc (thr d L) ↦{q} f
abbrev sMeanP (f : Vec F S16384 .f32) : sProp 𝕄 := (sMean).view.loc (thr d L) ↦{fullShare} f
abbrev sVarP (f : Vec F S16384 .f32) : sProp 𝕄 := (sVar).view.loc (thr d L) ↦{fullShare} f
abbrev sMaccP (f : Vec F S16384 .f32) : sProp 𝕄 := (sMacc).view.loc (thr d L) ↦{fullShare} f
abbrev sVaccP (f : Vec F S16384 .f32) : sProp 𝕄 := (sVacc).view.loc (thr d L) ↦{fullShare} f
abbrev sRowP (f : IVec S16384 32) : sProp 𝕄 := (sRow).view.loc (thr d L) ↦{fullShare} f
abbrev sColP (f : IVec S16384 32) : sProp 𝕄 := (sCol).view.loc (thr d L) ↦{fullShare} f

variable [FloatOps F]

/-- A loop's body over this subcore's arrays and scratch. -/
abbrev onTile {β : grid0.Coords → Type 1} (k : (i : grid0.Coords) → (arg2 : Memref sig .scVector .hbm S16384 .f32) → arg2.IsWhole → (arg3 : Memref sig .scVector .hbm S16384 .f32) → arg3.IsWhole
    → (arg4 : Memref sig .scVector .hbm S2097152 .i32) → arg4.IsWhole → (arg5 : Memref sig .scVector .hbm S2097152 .i32) → arg5.IsWhole
    → (arg6 : Memref sig .scVector .hbm S32x16384 .f32) → arg6.IsWhole → (arg7 : Memref sig .scVector .hbm S32x16384 .f32) → arg7.IsWhole
    → (arg8 : Memref sig .scVector .vmem S16384 .f32) → arg8.IsWhole → (arg9 : Memref sig .scVector .vmem S16384 .f32) → arg9.IsWhole
    → (arg10 : Memref sig .scVector .vmem S16384 .f32) → arg10.IsWhole → (arg11 : Memref sig .scVector .vmem S16384 .f32) → arg11.IsWhole
    → (arg12 : Memref sig .scVector .vmem S16384 .i32) → arg12.IsWhole → (arg13 : Memref sig .scVector .vmem S16384 .i32) → arg13.IsWhole
    → DmaSems sig S_ → DmaSems sig S_ → DmaSems sig S_ → DmaSems sig S_ → DmaSems sig S_ → DmaSems sig S_
    → DmaSems sig S_ → DmaSems sig S_ → DmaSems sig S_ → DmaSems sig S_ → DmaSems sig S_ → DmaSems sig S_ → β i) : β L :=
  k L meanV (Memref.isWhole_whole _) varV (Memref.isWhole_whole _) rowV (Memref.isWhole_whole _) colV (Memref.isWhole_whole _)
    mpV (Memref.isWhole_whole _) vpV (Memref.isWhole_whole _) sMean (Memref.isWhole_whole _) sVar (Memref.isWhole_whole _)
    sMacc (Memref.isWhole_whole _) sVacc (Memref.isWhole_whole _) sRow (Memref.isWhole_whole _) sCol (Memref.isWhole_whole _)
    cc0_scoped0 cc0_scoped1 cc0_scoped2 cc0_scoped3 cc0_scoped4 cc0_scoped5 cc0_scoped6 cc0_scoped7 cc0_scoped8 cc0_scoped9
    cc0_scoped10 cc0_scoped11

/-! ## One trip of an edge loop -/

omit [FloatOps F] in
/-- What the load of sixteen words of a chunk's rows reads. -/
theorem load_sRow (t : Fin k0_t2_loop.trips) (f : IVec S16384 32) :
    (sRow).view.readAt (Elt F) (Rect.unit (s := S16384) (k0_off3 t) S16.size (k0_off3_inb t)).toLoadRect f = lanes f (16 * t.val) := by
  funext x
  have h := k0_off3_inb t 0
  have hx : (x 0).val < 16 := (x 0).isLt
  have e : (k0_off3 t) 0 = 16 * t.val := by rw [k0_off3_eq]; rfl
  rw [e] at h
  have h' : 16 * t.val + 16 ≤ 16384 := h
  refine congrArg f (funext fun | 0 => Fin.ext ?_)
  refine Eq.trans (b := (k0_off3 t) 0 + 1 * (x 0).val) rfl ?_
  rw [e]
  show 16 * t.val + 1 * (x 0).val = (16 * t.val + (x 0).val) % 16384
  omega
omit [FloatOps F] in
theorem load_sCol (t : Fin k0_t2_loop.trips) (f : IVec S16384 32) :
    (sCol).view.readAt (Elt F) (Rect.unit (s := S16384) (k0_off3 t) S16.size (k0_off3_inb t)).toLoadRect f = lanes f (16 * t.val) :=
  load_sRow (F := F) t f

omit [FloatOps F] in
theorem pts_whole {r : Ref sig .scVector} (f : Buf (Elt F) ((thr d L).loc r)) :
    (((Memref.whole r).access (.whole _)).loc (thr d L) ↦[((Memref.whole r).access (.whole _)).set]{fullShare} f : sProp 𝕄)
      = (thr d L).loc r ↦{fullShare} f := by
  rw [show ((Memref.whole r).access (.whole _)).set = Finset.univ from Memref.set_access_whole r]

omit [FloatOps F] in
theorem read_sMean (f : Vec F S16384 .f32) : ((sMean).access (.whole S16384)).read (Elt F) f = f := Memref.read_access_whole (Elt F) cc0_scratch0 f
omit [FloatOps F] in
theorem read_sVar (f : Vec F S16384 .f32) : ((sVar).access (.whole S16384)).read (Elt F) f = f := Memref.read_access_whole (Elt F) cc0_scratch1 f
omit [FloatOps F] in
theorem read_sMacc (f : Vec F S16384 .f32) : ((sMacc).access (.whole S16384)).read (Elt F) f = f := Memref.read_access_whole (Elt F) cc0_scratch2 f
omit [FloatOps F] in
theorem read_sVacc (f : Vec F S16384 .f32) : ((sVacc).access (.whole S16384)).read (Elt F) f = f := Memref.read_access_whole (Elt F) cc0_scratch3 f
omit [FloatOps F] in
theorem write_sMacc (f w : Vec F S16384 .f32) : ((sMacc).access (.whole S16384)).write (Elt F) f w Finset.univ = w :=
  Memref.write_access_whole_univ (Elt F) cc0_scratch2 f w
omit [FloatOps F] in
theorem write_sVacc (f w : Vec F S16384 .f32) : ((sVacc).access (.whole S16384)).write (Elt F) f w Finset.univ = w :=
  Memref.write_access_whole_univ (Elt F) cc0_scratch3 f w

/-- One trip: sixteen edges of the chunk in the scratch added into both accumulators. -/
theorem trip (t : Fin k0_t2_loop.trips) (a : BitVec 32) (fm fv ga gb : Vec F S16384 .f32) (fr fc : IVec S16384 32)
    (hr : ∀ j, (fr j).toNat < 16384) (hc : ∀ j, (fc j).toNat < 16384) :
    iprop(sMeanP d L fm ∗ sVarP d L fv ∗ sMaccP d L ga ∗ sVaccP d L gb ∗ sRowP d L fr ∗ sColP d L fc)
      ⊢ wp frame (wpE (defs₀ (F := F)) 𝒱₀ (thr d L) none) Set.univ (onTile L k0_t2_body t a)
          fun _ => iprop(sMeanP d L fm ∗ sVarP d L fv ∗ sMaccP d L (addLanes fm fr fc hr hc (16 * t.val) ga)
            ∗ sVaccP d L (addLanes fv fr fc hr hc (16 * t.val) gb) ∗ sRowP d L fr ∗ sColP d L fc) := by
  unfold onTile k0_t2_body
  simp only [Prog.lift, Prog.bind_op, Prog.bind_ret, Prog.pure_eq_ret]
  iintro ⟨Hm, Hv, Ha, Hb, Hr, Hc⟩
  iapply (wp_load 𝒱₀ (thr d L) none Set.univ (m := sRow) (S := Finset.univ) (Finset.subset_univ _)) $$ Hr; iintro Hr
  rw [load_sRow]
  rw [wp_assume_of _ _ _ _ (show k0_chk2 (shapeCast S16 (lanes fr (16 * t.val)) shapeCasts_S16_S16) from ⟨lanes_cast_lt hr _, lanes_cast_lt hr _⟩)]
  iapply (wp_load 𝒱₀ (thr d L) none Set.univ (m := sCol) (S := Finset.univ) (Finset.subset_univ _)) $$ Hc; iintro Hc
  rw [load_sCol]
  rw [wp_assume_of _ _ _ _ (show k0_chk1 (shapeCast S16 (lanes fc (16 * t.val)) shapeCasts_S16_S16) from ⟨lanes_cast_lt hc _, lanes_cast_lt hc _⟩)]
  iapply (SparseCore.wp_vectorLoadIdx 𝒱₀ (thr d L) none Set.univ (base := sMean) (S := Finset.univ) (Finset.subset_univ _)) $$ Hm; iintro Hm; rw [read_sMean]
  iapply (SparseCore.wp_vectorLoadIdx 𝒱₀ (thr d L) none Set.univ (base := sVar) (S := Finset.univ) (Finset.subset_univ _)) $$ Hv; iintro Hv; rw [read_sVar]
  ihave Ha := (Entails.of_eq (pts_whole (F := F) d L (r := cc0_scratch2) ga).symm) $$ Ha
  iapply (SparseCore.wp_vectorStoreIdx 𝒱₀ (thr d L) none Set.univ (base := sMacc)) $$ Ha; iintro Ha; rw [read_sMacc, write_sMacc, addLanes_cast]
  ihave Ha := (Entails.of_eq (pts_whole (F := F) d L (r := cc0_scratch2) _)) $$ Ha
  ihave Hb := (Entails.of_eq (pts_whole (F := F) d L (r := cc0_scratch3) gb).symm) $$ Hb
  iapply (SparseCore.wp_vectorStoreIdx 𝒱₀ (thr d L) none Set.univ (base := sVacc)) $$ Hb; iintro Hb; rw [read_sVacc, write_sVacc, addLanes_cast]
  ihave Hb := (Entails.of_eq (pts_whole (F := F) d L (r := cc0_scratch3) _)) $$ Hb
  rw [wp_ret]; imodintro
  isplitl [Hm]; · iexact Hm
  isplitl [Hv]; · iexact Hv
  isplitl [Ha]; · iexact Ha
  isplitl [Hb]; · iexact Hb
  isplitl [Hr] <;> iassumption

/-! ## The loop that clears the accumulators -/

/-- Entries below `n` are zero. -/
def ZeroTo (f : Vec F S16384 .f32) (n : Nat) : Prop := ∀ j : S16384.Idx, (j 0).val < n → f j = Scalar.ofBits .f32 0x00000000#32

/-- Storing sixteen zeros at entry `16 * t` extends the zero entries by sixteen. -/
theorem zero_store (t : Fin k0_t1_loop.trips) (f : Vec F S16384 .f32)
    (g : Vec F S16384 .f32) (w : Vec F S16 .f32) (hw : w = fun _ => Scalar.ofBits .f32 0x00000000#32)
    (hin : ∀ x : S16.Idx, g (ix1 (Fin.ofNat 16384 (16 * t.val + (x 0).val))) = w x)
    (hout : ∀ j : S16384.Idx, (∀ x : S16.Idx, ix1 (Fin.ofNat 16384 (16 * t.val + (x 0).val)) ≠ j) → g j = f j)
    (hz : ZeroTo f (16 * t.val)) : ZeroTo g (16 * (t.val + 1)) := by
  intro j hj
  by_cases h : ∃ x : S16.Idx, ix1 (Fin.ofNat 16384 (16 * t.val + (x 0).val)) = j
  · obtain ⟨x, rfl⟩ := h
    rw [hin, hw]
  · have h' : ∀ x : S16.Idx, ix1 (Fin.ofNat 16384 (16 * t.val + (x 0).val)) ≠ j := fun x hx => h ⟨x, hx⟩
    rw [hout j h']
    refine hz j (lt_of_not_ge fun hge => ?_)
    have hj' : (j 0).val < 16384 := (j 0).isLt
    refine h' (ix1 ⟨(j 0).val - 16 * t.val, by omega⟩) (funext fun | 0 => Fin.ext ?_)
    show (16 * t.val + ((j 0).val - 16 * t.val)) % 16384 = (j 0).val
    omega

omit [FloatOps F] in
theorem emb_zero (t : Fin k0_t1_loop.trips) (x : S16.Idx) :
    (Rect.unit (s := S16384) (k0_off1 t) S16.size (k0_off1_inb t)).emb x = ix1 (Fin.ofNat 16384 (16 * t.val + (x 0).val)) := by
  have h := k0_off1_inb t 0
  have hx : (x 0).val < 16 := (x 0).isLt
  have e : (k0_off1 t) 0 = 16 * t.val := by rw [k0_off1_eq]; rfl
  rw [e] at h
  have h' : 16 * t.val + 16 ≤ 16384 := h
  refine funext fun | 0 => Fin.ext ?_
  refine Eq.trans (b := (k0_off1 t) 0 + 1 * (x 0).val) rfl ?_
  rw [e]
  show 16 * t.val + 1 * (x 0).val = (16 * t.val + (x 0).val) % 16384
  omega

theorem zero_sMacc (t : Fin k0_t1_loop.trips) (f : Vec F S16384 .f32) (w : Vec F S16 .f32) (hw : w = fun _ => Scalar.ofBits .f32 0x00000000#32)
    (hz : ZeroTo f (16 * t.val)) :
    ZeroTo (((sMacc).access (Rect.unit (s := S16384) (k0_off1 t) S16.size (k0_off1_inb t))).write (Elt F) f w Finset.univ) (16 * (t.val + 1)) := by
  refine zero_store t f _ w hw (fun x => ?_) (fun j hj => ?_) hz
  · rw [← emb_zero t x]
    exact View.write_emb_of_mem (v := (sMacc).access (Rect.unit (s := S16384) (k0_off1 t) S16.size (k0_off1_inb t))) f w (Finset.mem_univ x)
  · refine View.write_of_not_mem (v := (sMacc).access (Rect.unit (s := S16384) (k0_off1 t) S16.size (k0_off1_inb t))) f w Finset.univ fun hm => ?_
    obtain ⟨x, -, hx⟩ := Finset.mem_map.mp hm
    exact hj x ((emb_zero t x).symm.trans hx)

theorem zero_sVacc (t : Fin k0_t1_loop.trips) (f : Vec F S16384 .f32) (w : Vec F S16 .f32) (hw : w = fun _ => Scalar.ofBits .f32 0x00000000#32)
    (hz : ZeroTo f (16 * t.val)) :
    ZeroTo (((sVacc).access (Rect.unit (s := S16384) (k0_off1 t) S16.size (k0_off1_inb t))).write (Elt F) f w Finset.univ) (16 * (t.val + 1)) :=
  zero_sMacc t f w hw hz

/-- One trip of the clearing loop. -/
theorem zero_trip (t : Fin k0_t1_loop.trips) (a : BitVec 32) :
    iprop((∃ f, ⌜ZeroTo f (16 * t.val)⌝ ∗ sMaccP (F := F) d L f) ∗ ∃ f, ⌜ZeroTo f (16 * t.val)⌝ ∗ sVaccP (F := F) d L f)
      ⊢ wp frame (wpE (defs₀ (F := F)) 𝒱₀ (thr d L) none) Set.univ (onTile L k0_t1_body t a)
          fun _ => iprop((∃ f, ⌜ZeroTo f (16 * (t.val + 1))⌝ ∗ sMaccP (F := F) d L f) ∗ ∃ f, ⌜ZeroTo f (16 * (t.val + 1))⌝ ∗ sVaccP (F := F) d L f) := by
  unfold onTile k0_t1_body
  simp only [Prog.lift, Prog.bind_op, Prog.bind_ret, Prog.pure_eq_ret]
  iintro ⟨⟨%fa, %hza, Ha⟩, ⟨%fb, %hzb, Hb⟩⟩
  iapply (wp_load 𝒱₀ (thr d L) none Set.univ (m := sMacc) (S := Finset.univ) (Finset.subset_univ _)) $$ Ha; iintro Ha
  iapply (wp_store 𝒱₀ (thr d L) none Set.univ (m := sMacc) (r := Rect.unit (s := S16384) (k0_off1 t) S16.size (k0_off1_inb t)) (Mk := Finset.univ) (S := Finset.univ) (Finset.subset_univ _)) $$ Ha; iintro Ha
  iapply (wp_load 𝒱₀ (thr d L) none Set.univ (m := sVacc) (S := Finset.univ) (Finset.subset_univ _)) $$ Hb; iintro Hb
  iapply (wp_store 𝒱₀ (thr d L) none Set.univ (m := sVacc) (r := Rect.unit (s := S16384) (k0_off1 t) S16.size (k0_off1_inb t)) (Mk := Finset.univ) (S := Finset.univ) (Finset.subset_univ _)) $$ Hb; iintro Hb
  rw [wp_ret]; imodintro
  isplitl [Ha]
  · iexists _; isplitr
    swap; · iexact Ha
    ipureintro; exact zero_sMacc t fa _ rfl hza
  · iexists _; isplitr
    swap; · iexact Hb
    ipureintro; exact zero_sVacc t fb _ rfl hzb

theorem trips1 : k0_t1_loop.trips = 1024 := by decide +kernel
theorem trips2 : k0_t2_loop.trips = 1024 := by decide +kernel

theorem eq_zero_of_ZeroTo {f : Vec F S16384 .f32} (h : ZeroTo f 16384) : f = fun _ => Scalar.ofBits .f32 0x00000000#32 :=
  funext fun j => h j (j 0).isLt

/-- The clearing loop: both accumulators zero, whatever they held. -/
theorem wp_clear {β : Type} {kk : BitVec 32 → Prog (TpuEff nD τ sig (Elt F) Λ₀ (thr d L).2) β} {Q : β → sProp 𝕄} :
    iprop((∃ f, sMaccP (F := F) d L f) ∗ ∃ f, sVaccP (F := F) d L f)
      ⊢ iprop((∀ a, iprop(sMaccP (F := F) d L (fun _ => Scalar.ofBits .f32 0x00000000#32) ∗ sVaccP (F := F) d L (fun _ => Scalar.ofBits .f32 0x00000000#32))
            -∗ wp frame (wpE (defs₀ (F := F)) 𝒱₀ (thr d L) none) Set.univ (kk a) Q)
          -∗ wp frame (wpE (defs₀ (F := F)) 𝒱₀ (thr d L) none) Set.univ (Scf.Loop.for k0_t1_loop k0_t1_ok 0#32 (onTile L k0_t1_body) >>= kk) Q) := by
  iintro ⟨⟨%fa, Ha⟩, ⟨%fb, Hb⟩⟩ Hk
  iapply (Scf.wp_for_bind frame (wpE (defs₀ (F := F)) 𝒱₀ (thr d L) none) Set.univ _ _ _ k0_t1_ok 0#32 (onTile L k0_t1_body)
    (fun k _ => iprop((∃ f, ⌜ZeroTo f (16 * k)⌝ ∗ sMaccP (F := F) d L f) ∗ ∃ f, ⌜ZeroTo f (16 * k)⌝ ∗ sVaccP (F := F) d L f))
    (fun k a => zero_trip d L k a)) $$ [Ha Hb]
  · isplitl [Ha]
    · iexists fa; isplitr
      · ipureintro; exact fun j hj => absurd hj (by omega)
      · iexact Ha
    · iexists fb; isplitr
      · ipureintro; exact fun j hj => absurd hj (by omega)
      · iexact Hb
  iintro %a ⟨⟨%ga, %hga, Ha⟩, ⟨%gb, %hgb, Hb⟩⟩
  have hga' : ZeroTo ga (16 * k0_t1_loop.trips) := hga
  have hgb' : ZeroTo gb (16 * k0_t1_loop.trips) := hgb
  rw [trips1] at hga' hgb'
  obtain rfl := eq_zero_of_ZeroTo hga'
  obtain rfl := eq_zero_of_ZeroTo hgb'
  iapply Hk
  isplitl [Ha] <;> iassumption

/-! ## An edge loop -/

variable (fm fv : Vec F S16384 .f32) (row col : IVec S2097152 32) (hr : ∀ j, (row j).toNat < 16384) (hc : ∀ j, (col j).toNat < 16384)

/-- The four scratch arrays an edge loop reads and writes, `n` steps of sixteen edges in, with chunk `b` staged. -/
abbrev edgesAt (s₀ n b : Nat) : sProp 𝕄 :=
  iprop(sMeanP d L fm ∗ sVarP d L fv ∗ sMaccP d L (accum fm row col hr hc s₀ n) ∗ sVaccP d L (accum fv row col hr hc s₀ n)
    ∗ sRowP d L (chunk row b) ∗ sColP d L (chunk col b))

theorem accum_step (val : Vec F S16384 .f32) (s₀ r k : Nat) (hk : k < 1024) :
    addLanes val (chunk row (s₀ + 16384 * r)) (chunk col (s₀ + 16384 * r)) (chunk_lt hr _) (chunk_lt hc _) (16 * k) (accum val row col hr hc s₀ (1024 * r + k))
      = accum val row col hr hc s₀ (1024 * r + (k + 1)) := by
  rw [addLanes_chunk val row col hr hc _ _ (by omega), show s₀ + 16384 * r + 16 * k = s₀ + 16 * (1024 * r + k) by ring]
  rfl

/-- The loop over chunk `r` of the subcore's edges. -/
theorem wp_edges {β : Type} {kk : BitVec 32 → Prog (TpuEff nD τ sig (Elt F) Λ₀ (thr d L).2) β} {Q : β → sProp 𝕄} (s₀ r : Nat) :
    edgesAt d L fm fv row col hr hc s₀ (1024 * r) (s₀ + 16384 * r)
      ⊢ iprop((∀ a, edgesAt d L fm fv row col hr hc s₀ (1024 * (r + 1)) (s₀ + 16384 * r)
            -∗ wp frame (wpE (defs₀ (F := F)) 𝒱₀ (thr d L) none) Set.univ (kk a) Q)
          -∗ wp frame (wpE (defs₀ (F := F)) 𝒱₀ (thr d L) none) Set.univ (Scf.Loop.for k0_t2_loop k0_t2_ok 0#32 (onTile L k0_t2_body) >>= kk) Q) := by
  have h := Scf.wp_for_bind frame (wpE (defs₀ (F := F)) 𝒱₀ (thr d L) none) Set.univ _ _ _ k0_t2_ok 0#32 (onTile L k0_t2_body)
    (fun k _ => edgesAt d L fm fv row col hr hc s₀ (1024 * r + k) (s₀ + 16384 * r))
    (fun k a => by
      have hk : k.val < 1024 := lt_of_lt_of_eq k.isLt trips2
      have ht := trip d L k a fm fv (accum fm row col hr hc s₀ (1024 * r + k.val)) (accum fv row col hr hc s₀ (1024 * r + k.val))
        (chunk row (s₀ + 16384 * r)) (chunk col (s₀ + 16384 * r)) (chunk_lt hr _) (chunk_lt hc _)
      rw [accum_step row col hr hc fm s₀ r k.val hk, accum_step row col hr hc fv s₀ r k.val hk] at ht
      exact ht) (kk := kk) (Q := Q)
  rw [show Scf.trips k0_t2_loop.lb k0_t2_loop.ub k0_t2_loop.st = 1024 from trips2] at h
  exact h

/-! ## A copy and its wait -/

/-- What the subcore owes, with waits of its own transfers recorded since `W`. -/
abbrev owing (O : CellTallies nD τ sig (HIx 1)) (W : Waits sig (HIx 1)) : sProp 𝕄 :=
  iprop(∃ W', ⌜∀ p ∈ W', p ∈ W ∨ p.2 = none⌝ ∗ owes (thr d L) O W')

omit [FloatOps F] in
theorem credit_pos {κ : Kind} {sp : Space} {e : EltTy} (v : View sig κ sp S16384 e) : 0 < v.dmaCredit :=
  View.amount_pos v (.dma (0 : DmaSem sig)) (by decide)

/-- A whole buffer copied, the copy waited for: the target holds `g` where the proof needs it. -/
theorem wp_copy {O : CellTallies nD τ sig (HIx 1)} {W : Waits sig (HIx 1)} (hO : ∀ g, O g none = 0)
    {sp sp' : Space} {s : Shape} {e : EltTy} {src : Memref sig (thr d L).2.kind sp s e} {dst : Memref sig (thr d L).2.kind sp' s e} {sem : DmaSem sig}
    {hsrc hsrc' : src.view.WordExact} {hdst hdst' : dst.view.WordExact} {hsem : DmaTarget.Typed (nD := nD) sp (.dma sem) (.here dst)}
    {β : Type} {k : PUnit → Prog (TpuEff nD τ sig (Elt F) Λ₀ (thr d L).2) β} {Q : β → sProp 𝕄}
    {q : PosShare TreeShare} {fs : Buf (Elt F) (src.view.loc (thr d L))} {Sd : Finset (Idx (dst.view.loc (thr d L)))}
    {fd : Buf (Elt F) (dst.view.loc (thr d L))} (g : Buf (Elt F) (dst.view.loc (thr d L)))
    (hN0 : 0 < dst.view.dmaCredit) (hSd : dst.view.set ⊆ Sd)
    (hg : ∀ j ∈ Sd, dst.view.write (Elt F) fd (src.view.read (Elt F) fs) Finset.univ j = g j) :
    iprop(levAts (K (F := F)).L (K (F := F)).lev ∗ (src.view.loc (thr d L) ↦{q} fs) ∗ (dst.view.loc (thr d L) ↦[Sd]{fullShare} fd)
        ∗ semVal (thr d L, .dma sem) 0 ∗ owing d L O W)
      ⊢ iprop((iprop((src.view.loc (thr d L) ↦{q} fs) ∗ (dst.view.loc (thr d L) ↦[Sd]{fullShare} g) ∗ semVal (thr d L, .dma sem) 0 ∗ owing d L O W)
            -∗ wp frame (wpE (defs₀ (F := F)) 𝒱₀ (thr d L) none) Set.univ (k ⟨⟩) Q)
          -∗ wp frame (wpE (defs₀ (F := F)) 𝒱₀ (thr d L) none) Set.univ
            (.op (.enqueueDma src (.here dst) (.dma sem) hsrc hdst hsem) fun _ => .op (.waitDma2 sem src dst hsrc' hdst') k) Q) := by
  iintro ⟨#Hlv, Hs, Hd, Hv, ⟨%W', %hW', HO⟩⟩ Hk
  iapply (Transfers.wp_dmaFromWhole countersEmb 𝒱₀ (thr d L) none (default : HIx 1) dst.view.dmaCredit rfl hN0 hSd) $$ [Hs Hd Hv]
  · isplitl [Hs]; · iexact Hs
    isplitl [Hd]; · iexact Hd
    iexact Hv
  iintro Hfl
  iapply (Transfers.wp_waitLocalO countersEmb 𝒱₀ (thr d L) none (default : HIx 1) (rfl : dst.view.dmaCredit = _)) $$ [Hfl HO]
  · isplitl [Hfl]; · iexact Hfl
    isplitl [HO]; · iexact HO
    iapply ((K (F := F)).mayWait_none (SemLoc.dma sem) hO); iexact Hlv
  iintro ⟨⟨Hd, Hs⟩, Hv, HO⟩
  iapply Hk
  isplitl [Hs]; · iexact Hs
  isplitl [Hd]
  · iapply (Entails.of_eq (pointsTo_congr (Val := Elt F) (q := fullShare) hg)) $$ Hd
  isplitl [Hv]; · iexact Hv
  iexists _; isplitr
  swap; · iexact HO
  ipureintro; intro p hp
  rcases Finset.mem_insert.mp hp with hp | hp
  · exact .inr (hp ▸ rfl)
  · exact hW' p hp

/-! ## A chunk: its rows and columns staged, its edges added -/

/-- The subcore's number: the parts' row it writes. -/
abbrev wid : Nat := 2 * (L 1).val + (L 0).val

omit [FloatOps F] in
theorem read_rowV (r : Fin 4) (f : IVec S2097152 32) :
    ((rowV).slice (Rect.unit (s := S2097152) (k0_off2 L (BitVec.ofNat 32 (16384 * r.val))) S16384.size (k0_off2_inb L r)) (fun _ => rfl)).view.read (Elt F) f
      = chunk f (65536 * wid L + 16384 * r.val) := by
  funext x
  have h := k0_off2_inb L r 0
  have hx : (x 0).val < 16384 := (x 0).isLt
  have e : (k0_off2 L (BitVec.ofNat 32 (16384 * r.val))) 0 = 65536 * wid L + 16384 * r.val := by
    rw [k0_off2_eq]; show 131072 * (L 1).val + 65536 * (L 0).val + 16384 * r.val = _; ring
  rw [e] at h
  have h' : 65536 * wid L + 16384 * r.val + 16384 ≤ 2097152 := h
  refine congrArg f (funext fun | 0 => Fin.ext ?_)
  refine Eq.trans (b := (k0_off2 L (BitVec.ofNat 32 (16384 * r.val))) 0 + 1 * (x 0).val) rfl ?_
  rw [e]
  show 65536 * wid L + 16384 * r.val + 1 * (x 0).val = (65536 * wid L + 16384 * r.val + (x 0).val) % 2097152
  omega

omit [FloatOps F] in
theorem read_colV (r : Fin 4) (f : IVec S2097152 32) :
    ((colV).slice (Rect.unit (s := S2097152) (k0_off2 L (BitVec.ofNat 32 (16384 * r.val))) S16384.size (k0_off2_inb L r)) (fun _ => rfl)).view.read (Elt F) f
      = chunk f (65536 * wid L + 16384 * r.val) := read_rowV (F := F) L r f

/-- The subcore's arrays between chunks: its shares of the rows and the columns, the values staged, the accumulators
    `n` chunks in, the chunk scratch at anything, what it owes. -/
abbrev between (O : CellTallies nD τ sig (HIx 1)) (W : Waits sig (HIx 1)) (q : PosShare TreeShare) (n : Nat) : sProp 𝕄 :=
  iprop(rowP (F := F) d L q row ∗ colP (F := F) d L q col ∗ sMeanP d L fm ∗ sVarP d L fv
    ∗ sMaccP d L (accum fm row col hr hc (65536 * wid L) (1024 * n)) ∗ sVaccP d L (accum fv row col hr hc (65536 * wid L) (1024 * n))
    ∗ (∃ f, sRowP (F := F) d L f) ∗ (∃ f, sColP (F := F) d L f) ∗ owing d L O W)

theorem wp_chunk {O : CellTallies nD τ sig (HIx 1)} {W : Waits sig (HIx 1)} (hO : ∀ g, O g none = 0) (q : PosShare TreeShare) (r : Fin 4)
    {semR semC : DmaSem sig} {h1 h1' h2 h2' h3 h4 h4' h5 h5' h6}
    {β : Type} {kk : BitVec 32 → Prog (TpuEff nD τ sig (Elt F) Λ₀ (thr d L).2) β} {Q : β → sProp 𝕄} :
    iprop(levAts (K (F := F)).L (K (F := F)).lev ∗ between d L fm fv row col hr hc O W q r.val
        ∗ semVal (thr d L, .dma semR) 0 ∗ semVal (thr d L, .dma semC) 0)
      ⊢ iprop((∀ a, iprop(between d L fm fv row col hr hc O W q (r.val + 1) ∗ semVal (thr d L, .dma semR) 0 ∗ semVal (thr d L, .dma semC) 0)
            -∗ wp frame (wpE (defs₀ (F := F)) 𝒱₀ (thr d L) none) Set.univ (kk a) Q)
          -∗ wp frame (wpE (defs₀ (F := F)) 𝒱₀ (thr d L) none) Set.univ
            (.op (.enqueueDma ((rowV).slice (Rect.unit (s := S2097152) (k0_off2 L (BitVec.ofNat 32 (16384 * r.val))) S16384.size (k0_off2_inb L r)) (fun _ => rfl)) (.here sRow) (.dma semR) h1 h2 h3)
              fun _ => .op (.waitDma2 semR ((rowV).slice (Rect.unit (s := S2097152) (k0_off2 L (BitVec.ofNat 32 (16384 * r.val))) S16384.size (k0_off2_inb L r)) (fun _ => rfl)) sRow h1' h2')
              fun _ => .op (.enqueueDma ((colV).slice (Rect.unit (s := S2097152) (k0_off2 L (BitVec.ofNat 32 (16384 * r.val))) S16384.size (k0_off2_inb L r)) (fun _ => rfl)) (.here sCol) (.dma semC) h4 h5 h6)
              fun _ => .op (.waitDma2 semC ((colV).slice (Rect.unit (s := S2097152) (k0_off2 L (BitVec.ofNat 32 (16384 * r.val))) S16384.size (k0_off2_inb L r)) (fun _ => rfl)) sCol h4' h5')
              fun _ => Scf.Loop.for k0_t2_loop k0_t2_ok 0#32 (onTile L k0_t2_body) >>= kk) Q) := by
  iintro ⟨#Hlv, ⟨Hrow, Hcol, Hm, Hv, Ha, Hb, ⟨%fr, Hr⟩, ⟨%fc, Hc⟩, HO⟩, HsR, HsC⟩ Hk
  iapply (wp_copy d L hO (src := (rowV).slice (Rect.unit (s := S2097152) (k0_off2 L (BitVec.ofNat 32 (16384 * r.val))) S16384.size (k0_off2_inb L r)) (fun _ => rfl))
    (dst := sRow) (q := q) (fs := row) (Sd := Finset.univ) (fd := fr) (chunk row (65536 * wid L + 16384 * r.val)) (credit_pos _) (Finset.subset_univ _)
    (fun j _ => by rw [read_rowV]; exact congrFun (View.write_whole_univ (Val := Elt F) cc0_scratch4 fr _) j)) $$ [Hrow Hr HsR HO]
  · isplitr; · iexact Hlv
    isplitl [Hrow]; · iexact Hrow
    isplitl [Hr]; · iexact Hr
    isplitl [HsR] <;> iassumption
  iintro ⟨Hrow, Hr, HsR, HO⟩
  iapply (wp_copy d L hO (src := (colV).slice (Rect.unit (s := S2097152) (k0_off2 L (BitVec.ofNat 32 (16384 * r.val))) S16384.size (k0_off2_inb L r)) (fun _ => rfl))
    (dst := sCol) (q := q) (fs := col) (Sd := Finset.univ) (fd := fc) (chunk col (65536 * wid L + 16384 * r.val)) (credit_pos _) (Finset.subset_univ _)
    (fun j _ => by rw [read_colV]; exact congrFun (View.write_whole_univ (Val := Elt F) cc0_scratch5 fc _) j)) $$ [Hcol Hc HsC HO]
  · isplitr; · iexact Hlv
    isplitl [Hcol]; · iexact Hcol
    isplitl [Hc]; · iexact Hc
    isplitl [HsC] <;> iassumption
  iintro ⟨Hcol, Hc, HsC, HO⟩
  iapply (wp_edges d L fm fv row col hr hc (65536 * wid L) r.val) $$ [Hm Hv Ha Hb Hr Hc]
  · isplitl [Hm]; · iexact Hm
    isplitl [Hv]; · iexact Hv
    isplitl [Ha]; · iexact Ha
    isplitl [Hb]; · iexact Hb
    isplitl [Hr] <;> iassumption
  iintro %a ⟨Hm, Hv, Ha, Hb, Hr, Hc⟩
  iapply Hk
  isplitr [HsR HsC]
  · isplitl [Hrow]; · iexact Hrow
    isplitl [Hcol]; · iexact Hcol
    isplitl [Hm]; · iexact Hm
    isplitl [Hv]; · iexact Hv
    isplitl [Ha]; · iexact Ha
    isplitl [Hb]; · iexact Hb
    isplitl [Hr]; · iexists _; iexact Hr
    isplitl [Hc]; · iexists _; iexact Hc
    iexact HO
  isplitl [HsR] <;> iassumption

end Tile
end Cert.Proof.OfKernelIdeal
-- ==== Proof.TaskKernelIdeal.lean ====
/-
  One vector subcore's whole task: the values and the four chunks of its edges staged, the two rows of partial sums
  written out, every semaphore and scratch array given back.
-/
module

public import proofs.«01_k».proof.Proof.TileKernelIdeal

@[expose] public section

noncomputable section

namespace Cert.Proof.OfKernelIdeal

open Cert.KernelIdeal Cert.KernelIdeal.Gen
open Cert.EdgeSums

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Task

variable (d : Dev nD) (L : grid0.Coords)

/-! ## The row of the parts a subcore writes -/

/-- Row `w` of an array of parts. -/
def rowSet (w : Fin 32) : Finset S32x16384.Idx := Finset.univ.filter fun j => (j 0).val = w.val

theorem wid_lt : wid L < 32 := by
  have h0 : (L 0).val < 2 := (L 0).isLt
  have h1 : (L 1).val < 16 := (L 1).isLt
  show 2 * (L 1).val + (L 0).val < 32
  omega

abbrev widF : Fin 32 := ⟨wid L, wid_lt L⟩

abbrev mpRow : Memref sig .scVector .hbm S16384 .f32 :=
  ((mpV).slice (Rect.unit (s := S32x16384) (k0_off7 L) S1x16384.size (k0_off7_inb L)) (fun _ => rfl)).squeeze S16384 squeezes_S1x16384_S16384
abbrev vpRow : Memref sig .scVector .hbm S16384 .f32 :=
  ((vpV).slice (Rect.unit (s := S32x16384) (k0_off7 L) S1x16384.size (k0_off7_inb L)) (fun _ => rfl)).squeeze S16384 squeezes_S1x16384_S16384

theorem emb_mpRow (x : S16384.Idx) : (mpRow L).view.emb x = ix2 (widF L) (x 0) := by
  have h0 : (k0_off7 L) 0 = wid L := by rw [k0_off7_eq]; rfl
  have h1 : (k0_off7 L) 1 = 0 := by rw [k0_off7_eq]; rfl
  have hE : (mpRow L).view.emb x = (Rect.unit (s := S32x16384) (k0_off7 L) S1x16384.size (k0_off7_inb L)).emb (Fin.cons ⟨0, Nat.one_pos⟩ x) :=
    congrArg (Rect.unit (s := S32x16384) (k0_off7 L) S1x16384.size (k0_off7_inb L)).emb (Shape.reshapeEquiv_cons_one _ x)
  rw [hE]
  refine funext fun
    | 0 => Fin.ext ?_
    | 1 => Fin.ext ?_
  · refine Eq.trans (b := (k0_off7 L) 0 + 1 * 0) rfl ?_
    rw [h0]; rfl
  · refine Eq.trans (b := (k0_off7 L) 1 + 1 * (x 0).val) rfl ?_
    rw [h1]; show 0 + 1 * (x 0).val = (x 0).val; omega

theorem emb_vpRow (x : S16384.Idx) : (vpRow L).view.emb x = ix2 (widF L) (x 0) := emb_mpRow L x

theorem mpRow_subset : (mpRow L).view.set ⊆ rowSet (widF L) := by
  intro j hj
  obtain ⟨x, -, rfl⟩ := Finset.mem_map.mp hj
  exact Finset.mem_filter.mpr ⟨Finset.mem_univ _, congrArg Fin.val (congrFun (emb_mpRow L x) 0)⟩

theorem vpRow_subset : (vpRow L).view.set ⊆ rowSet (widF L) := mpRow_subset L

theorem write_mpRow (fd : Vec F S32x16384 .f32) (w : Vec F S16384 .f32) (g : Vec F S32x16384 .f32)
    (h : ∀ y : Fin 16384, g (ix2 (widF L) y) = w (ix1 y)) :
    ∀ j ∈ rowSet (widF L), (mpRow L).view.write (Elt F) fd w Finset.univ j = g j := by
  intro j hj
  have hj0 : j 0 = widF L := Fin.ext (Finset.mem_filter.mp hj).2
  have e : j = (mpRow L).view.emb (ix1 (j 1)) := by
    rw [emb_mpRow]; exact funext fun | 0 => hj0 | 1 => rfl
  have hw : (mpRow L).view.write (Elt F) fd w Finset.univ ((mpRow L).view.emb (ix1 (j 1))) = w (ix1 (j 1)) :=
    View.write_emb_of_mem (v := (mpRow L).view) fd w (Finset.mem_univ _)
  rw [e, hw, emb_mpRow]
  exact (h (j 1)).symm

theorem write_vpRow (fd : Vec F S32x16384 .f32) (w : Vec F S16384 .f32) (g : Vec F S32x16384 .f32)
    (h : ∀ y : Fin 16384, g (ix2 (widF L) y) = w (ix1 y)) :
    ∀ j ∈ rowSet (widF L), (vpRow L).view.write (Elt F) fd w Finset.univ j = g j := by
  intro j hj
  have hj0 : j 0 = widF L := Fin.ext (Finset.mem_filter.mp hj).2
  have e : j = (vpRow L).view.emb (ix1 (j 1)) := by
    rw [emb_vpRow]; exact funext fun | 0 => hj0 | 1 => rfl
  have hw : (vpRow L).view.write (Elt F) fd w Finset.univ ((vpRow L).view.emb (ix1 (j 1))) = w (ix1 (j 1)) :=
    View.write_emb_of_mem (v := (vpRow L).view) fd w (Finset.mem_univ _)
  rw [e, hw, emb_vpRow]
  exact (h (j 1)).symm

/-! ## The subcore's semaphores and scratch arrays, one by one -/

/-- Members of a set that a one-to-one table lists, and the rest. -/
theorem bigSep_listed {A : Type} [DecidableEq A] {s : Finset A} {n : ℕ} {e : Fin n → A} (inj : Function.Injective e) (sub : ∀ j, e j ∈ s)
    {Φ : A → sProp 𝕄} : bigSep s Φ = iprop((bigSep (Finset.univ : Finset (Fin n)) fun j => Φ (e j)) ∗ bigSep (s \ Finset.univ.map ⟨e, inj⟩) Φ) := by
  have h : Finset.univ.map ⟨e, inj⟩ ⊆ s := fun x hx => by
    obtain ⟨j, -, rfl⟩ := Finset.mem_map.mp hx; exact sub j
  rw [bigSep_sdiff_split h, bigSep_map]; rfl

/-- The twelve semaphores of its copies. -/
abbrev sems : Fin 12 → DmaSem sig := ![cc0_scoped0.sem, cc0_scoped1.sem, cc0_scoped2.sem, cc0_scoped3.sem, cc0_scoped4.sem,
  cc0_scoped5.sem, cc0_scoped6.sem, cc0_scoped7.sem, cc0_scoped8.sem, cc0_scoped9.sem, cc0_scoped10.sem, cc0_scoped11.sem]

theorem sems_inj : Function.Injective sems := by decide
theorem sems_scoped : ∀ n, (SemLoc.dma (sems n) : SemLoc sig).isScoped .scVector = true := by decide

/-- Its six scratch arrays. -/
abbrev scratch : Fin 6 → Ref sig .scVector := ![cc0_scratch0, cc0_scratch1, cc0_scratch2, cc0_scratch3, cc0_scratch4, cc0_scratch5]

theorem scratch_inj : Function.Injective scratch := by decide

abbrev sem0 (s : DmaSem sig) : sProp 𝕄 := semVal (thr d L, .dma s) 0

theorem ownSems0_V : ∃ R : sProp 𝕄, (ownSems0 (V d (cV L) (jV L)) : sProp 𝕄)
    = iprop((sem0 (F := F) d L cc0_scoped0.sem ∗ sem0 (F := F) d L cc0_scoped1.sem ∗ sem0 (F := F) d L cc0_scoped2.sem ∗ sem0 (F := F) d L cc0_scoped3.sem
        ∗ sem0 (F := F) d L cc0_scoped4.sem ∗ sem0 (F := F) d L cc0_scoped5.sem ∗ sem0 (F := F) d L cc0_scoped6.sem ∗ sem0 (F := F) d L cc0_scoped7.sem
        ∗ sem0 (F := F) d L cc0_scoped8.sem ∗ sem0 (F := F) d L cc0_scoped9.sem ∗ sem0 (F := F) d L cc0_scoped10.sem ∗ sem0 (F := F) d L cc0_scoped11.sem) ∗ R) := by
  have h := bigSep_listed (F := F) (s := ownCells (V d (cV L) (jV L)))
    (e := fun n : Fin 12 => ((thr d L, .dma (sems n)) : GSem nD τ sig))
    (fun a b h => sems_inj (SemLoc.dma.inj (Prod.mk.inj h).2))
    (fun n => (mem_ownCells (g := (thr d L, .dma (sems n)))).mpr ⟨rfl, sems_scoped n⟩) (Φ := fun g => semVal g 0)
  rw [bigSep_univ_eq_bigSepL [0, 1, 2, 3, 4, 5, 6, 7, 8, 9, 10, 11] (by decide) (by decide)] at h
  exact ⟨_, h⟩

theorem ownBufs_V : ∃ R : sProp 𝕄, (ownBufs (V d (cV L) (jV L)) : sProp 𝕄)
    = iprop(((∃ f, sMeanP (F := F) d L f) ∗ (∃ f, sVarP (F := F) d L f) ∗ (∃ f, sMaccP (F := F) d L f) ∗ (∃ f, sVaccP (F := F) d L f)
        ∗ (∃ f, sRowP (F := F) d L f) ∗ (∃ f, sColP (F := F) d L f)) ∗ R) := by
  have h := bigSep_listed (F := F) (s := ownRefs (τ := τ) (.scVector (cV L) (jV L)))
    (e := fun n : Fin 6 => (Proc.scVector (cV L) (jV L)).devRef (scratch n))
    (fun a b h => scratch_inj (Proc.devRef_injective _ h))
    (fun n => SparseCore.Cfg.mem_ownRefs_of_owner (p := Proc.scVector (cV L) (jV L)) (b := (Proc.scVector (cV L) (jV L)).devRef (scratch n))
      (by fin_cases n <;> rfl)) (Φ := fun b => iprop(∃ f, ((d, b) : Loc nD τ sig) ↦{fullShare} f))
  rw [bigSep_univ_eq_bigSepL [0, 1, 2, 3, 4, 5] (by decide) (by decide)] at h
  exact ⟨_, h⟩

/-! ## The task -/

variable [FloatOps F]
variable (fm fv : Vec F S16384 .f32) (row col : IVec S2097152 32) (hr : ∀ j, (row j).toNat < 16384) (hc : ∀ j, (col j).toNat < 16384)

/-- What the subcore is given of the seven arrays: read shares of four, its row of the two arrays of parts. -/
abbrev given (q : PosShare TreeShare) : sProp 𝕄 :=
  iprop(meanP d L q fm ∗ varP d L q fv ∗ rowP (F := F) d L q row ∗ colP (F := F) d L q col
    ∗ (∃ f, (mpV).view.loc (thr d L) ↦[rowSet (widF L)]{fullShare} f) ∗ ∃ f, (vpV).view.loc (thr d L) ↦[rowSet (widF L)]{fullShare} f)

/-- What it brings back. -/
abbrev brought (q : PosShare TreeShare) : sProp 𝕄 :=
  iprop(meanP d L q fm ∗ varP d L q fv ∗ rowP (F := F) d L q row ∗ colP (F := F) d L q col
    ∗ ((mpV).view.loc (thr d L) ↦[rowSet (widF L)]{fullShare} parts fm row col hr hc)
    ∗ (vpV).view.loc (thr d L) ↦[rowSet (widF L)]{fullShare} parts fv row col hr hc)

set_option maxHeartbeats 4000000 in
theorem tile_body (hF : (K (F := F)).Facts) (O : CellTallies nD τ sig (HIx 1)) (W : Waits sig (HIx 1)) (hO : ∀ g, O g none = 0) (q : PosShare TreeShare) :
    iprop(levAts (K (F := F)).L (K (F := F)).lev ∗ emp ∗ given d L fm fv row col q
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (onTile L cc0_k)
          fun _ => iprop(brought d L fm fv row col hr hc q
            ∗ scopedBufs (V d (cV L) (jV L)) ∗ scopedSems0 (V d (cV L) (jV L))
            ∗ ∃ W', ⌜∀ p ∈ W', p ∈ W ∨ p.2 = none⌝ ∗ owes (V d (cV L) (jV L)) O W') := by
  obtain ⟨RS, hRS⟩ := ownSems0_V (F := F) d L
  obtain ⟨RB, hRB⟩ := ownBufs_V (F := F) d L
  unfold onTile
  simp only [cc0_k_eq_skeleton]; unfold cc0_k_skel
  simp only [k0_part1_eq_skeleton, k0_part2_eq_skeleton]; unfold k0_part1_skel k0_part2_skel
  simp only [Prog.lift, Prog.bind_op, Prog.bind_ret, Prog.pure_eq_ret, bind_assoc, pure_bind]
  rw [(K (F := F)).scopedBufs_V hF d (cV L) (jV L), SparseCore.Cfg.scopedSems0_V (Val := Elt F) d (cV L) (jV L), hRS, hRB]
  iintro ⟨#Hlv, -, ⟨Hmean, Hvar, Hrow, Hcol, ⟨%fmp, Hmp⟩, ⟨%fvp, Hvp⟩⟩, ⟨⟨⟨%gm, Hm⟩, ⟨%gv, Hv⟩, Ha, Hb, Hr, Hc⟩, HRB⟩,
    ⟨⟨H0, H1, H2, H3, H4, H5, H6, H7, H8, H9, H10, H11⟩, HRS⟩, HO⟩
  iapply (wp_copy (W := W) d L hO (src := meanV) (dst := sMean) (q := q) (fs := fm) (Sd := Finset.univ) (fd := gm) fm (credit_pos _) (Finset.subset_univ _)
    (fun j _ => congrFun (View.write_whole_univ (Val := Elt F) cc0_scratch0 gm _) j)) $$ [Hmean Hm H0 HO]
  · isplitr; · iexact Hlv
    isplitl [Hmean]; · iexact Hmean
    isplitl [Hm]; · iexact Hm
    isplitl [H0]; · iexact H0
    iexists W; isplitr
    swap; · iexact HO
    ipureintro; exact fun p hp => .inl hp
  iintro ⟨Hmean, Hm, H0, HO⟩
  iapply (wp_copy (W := W) d L hO (src := varV) (dst := sVar) (q := q) (fs := fv) (Sd := Finset.univ) (fd := gv) fv (credit_pos _) (Finset.subset_univ _)
    (fun j _ => congrFun (View.write_whole_univ (Val := Elt F) cc0_scratch1 gv _) j)) $$ [Hvar Hv H1 HO]
  · isplitr; · iexact Hlv
    isplitl [Hvar]; · iexact Hvar
    isplitl [Hv]; · iexact Hv
    isplitl [H1] <;> iassumption
  iintro ⟨Hvar, Hv, H1, HO⟩
  iapply (wp_clear d L) $$ [Ha Hb]
  · isplitl [Ha] <;> iassumption
  iintro %a0 ⟨Ha, Hb⟩
  iapply (wp_chunk (W := W) d L fm fv row col hr hc hO q 0) $$ [Hrow Hcol Hm Hv Ha Hb Hr Hc HO H2 H3]
  · isplitr; · iexact Hlv
    isplitr [H2 H3]
    · isplitl [Hrow]; · iexact Hrow
      isplitl [Hcol]; · iexact Hcol
      isplitl [Hm]; · iexact Hm
      isplitl [Hv]; · iexact Hv
      isplitl [Ha]; · iexact Ha
      isplitl [Hb]; · iexact Hb
      isplitl [Hr]; · iexact Hr
      isplitl [Hc] <;> iassumption
    isplitl [H2] <;> iassumption
  iintro %a1 ⟨HB, H2, H3⟩
  iapply (wp_chunk (W := W) d L fm fv row col hr hc hO q 1) $$ [HB H4 H5]
  · isplitr; · iexact Hlv
    isplitl [HB]; · iexact HB
    isplitl [H4] <;> iassumption
  iintro %a2 ⟨HB, H4, H5⟩
  iapply (wp_chunk (W := W) d L fm fv row col hr hc hO q 2) $$ [HB H6 H7]
  · isplitr; · iexact Hlv
    isplitl [HB]; · iexact HB
    isplitl [H6] <;> iassumption
  iintro %a3 ⟨HB, H6, H7⟩
  iapply (wp_chunk (W := W) d L fm fv row col hr hc hO q 3) $$ [HB H8 H9]
  · isplitr; · iexact Hlv
    isplitl [HB]; · iexact HB
    isplitl [H8] <;> iassumption
  iintro %a4 ⟨⟨Hrow, Hcol, Hm, Hv, Ha, Hb, Hr, Hc, HO⟩, H8, H9⟩
  iapply (wp_copy (W := W) d L hO (src := sMacc) (dst := mpRow L) (q := fullShare) (fs := accum fm row col hr hc (65536 * wid L) 4096)
    (Sd := rowSet (widF L)) (fd := fmp) (parts fm row col hr hc) (credit_pos _) (mpRow_subset L)
    (write_mpRow L fmp _ _ fun y => rfl)) $$ [Ha Hmp H10 HO]
  · isplitr; · iexact Hlv
    isplitl [Ha]; · iexact Ha
    isplitl [Hmp]; · iexact Hmp
    isplitl [H10] <;> iassumption
  iintro ⟨Ha, Hmp, H10, HO⟩
  iapply (wp_copy (W := W) d L hO (src := sVacc) (dst := vpRow L) (q := fullShare) (fs := accum fv row col hr hc (65536 * wid L) 4096)
    (Sd := rowSet (widF L)) (fd := fvp) (parts fv row col hr hc) (credit_pos _) (vpRow_subset L)
    (write_vpRow L fvp _ _ fun y => rfl)) $$ [Hb Hvp H11 HO]
  · isplitr; · iexact Hlv
    isplitl [Hb]; · iexact Hb
    isplitl [Hvp]; · iexact Hvp
    isplitl [H11] <;> iassumption
  iintro ⟨Hb, Hvp, H11, HO⟩
  rw [wp_ret]; imodintro
  isplitl [Hmean Hvar Hrow Hcol Hmp Hvp]
  · isplitl [Hmean]; · iexact Hmean
    isplitl [Hvar]; · iexact Hvar
    isplitl [Hrow]; · iexact Hrow
    isplitl [Hcol]; · iexact Hcol
    isplitl [Hmp] <;> iassumption
  isplitl [Hm Hv Ha Hb Hr Hc HRB]
  · isplitr [HRB]
    swap; · iexact HRB
    isplitl [Hm]; · iexists _; iexact Hm
    isplitl [Hv]; · iexists _; iexact Hv
    isplitl [Ha]; · iexists _; iexact Ha
    isplitl [Hb]; · iexists _; iexact Hb
    isplitl [Hr] <;> iassumption
  isplitr [HO]
  swap; · iexact HO
  isplitr [HRS]
  swap; · iexact HRS
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10] <;> iassumption

end Task
end Cert.Proof.OfKernelIdeal
-- ==== Proof.RegionKernelIdeal.lean ====
/-
  The TensorCore's half of the kernel: the pipeline that reads, block by block, the inputs and the two arrays of
  partial sums, and writes the normalised block. Its proof data, its body at a point, and the region it makes of the
  program's second statement.
-/
module

public import proofs.«01_k».proof.Proof.TaskKernelIdeal
public import proofs.«01_k».proof.Proof.Gen.KernelIdeal.Launch
public import proofs.«01_k».proof.Proof.Gen.KernelIdeal.Points
public import Idealize.ShloMosaic.Lib.Pipeline.Regions
public import Idealize.ShloMosaic.Lib.Pipeline.Value

@[expose] public section

noncomputable section

namespace Cert.Proof.OfKernelIdeal

open Cert.KernelIdeal Cert.KernelIdeal.Gen
open Cert.EdgeSums

open Idealize.ShloMosaic Idealize.ShloMosaic.ValueIdx
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

local notation "𝕄" => MT nD τ sig (HIx 1) (Elt F) ℕ UU ℕ

/-- The pipeline library's ghost state, the middle component. -/
abbrev EP : Emb UP (MT nD τ sig (HIx 1) (Elt F) ℕ UU ℕ) :=
  (Emb.inl : Emb UP (UP × Counters)).trans (embR (A := UH) (B := UP × Counters))

instance EP_landsIn : (EP (F := F)).LandsIn (upEmb : UEmb _ 𝕄) := by unfold EP embR; infer_instance

variable [FloatOps F] [∀ e, Nonempty (Elt F e)]

/-! ## The body at a point -/

section Body

variable (c : Dev nD)

theorem zero2 : (![0, 0] : Fin 2 → ℕ) = fun _ => 0 := by
  funext a; fin_cases a <;> rfl

/-- The body reads its three blocks and leaves the normalised block in the fourth. -/
theorem wp_body (i : grid1.Coords) (a1 : Memref sig .tc .vmem S2048x64 .f32) (h1 : a1.IsWhole)
    (a2 : Memref sig .tc .vmem S32x2048 .f32) (h2 : a2.IsWhole) (a3 : Memref sig .tc .vmem S32x2048 .f32) (h3 : a3.IsWhole)
    (a4 : Memref sig .tc .vmem S2048x64 .f32) (h4 : a4.IsWhole)
    (x : Vec F S2048x64 .f32) (mp vp : Vec F S32x2048 .f32) (o : Vec F S2048x64 .f32) (Q : PUnit → sProp 𝕄) :
    iprop(owns (c : Thread nD τ) a1 fullShare x ∗ owns (c : Thread nD τ) a2 fullShare mp ∗ owns (c : Thread nD τ) a3 fullShare vp
        ∗ owns (c : Thread nD τ) a4 fullShare o
        ∗ (iprop(owns (c : Thread nD τ) a1 fullShare x ∗ owns (c : Thread nD τ) a2 fullShare mp ∗ owns (c : Thread nD τ) a3 fullShare vp
          ∗ owns (c : Thread nD τ) a4 fullShare (k1_pay1 mp vp x)) -∗ Q ⟨⟩))
      ⊢ wp frame (wpE defs₀ 𝒱₀ (c : Thread nD τ) none) Set.univ (cc1_body i a1 h1 a2 h2 a3 h3 a4 h4) Q := by
  rw [cc1_body_eq_skeleton]; unfold cc1_body_skel owns
  simp only [Prog.lift, Prog.bind_op, Prog.bind_ret, Prog.pure_eq_ret]
  iintro ⟨⟨%f1, %e1, H1⟩, ⟨%f2, %e2, H2⟩, ⟨%f3, %e3, H3⟩, ⟨%f4, %e4, H4⟩, HQ⟩
  subst e1 e2 e3
  iapply (wp_load 𝒱₀ (c : Thread nD τ) none Set.univ (m := a2) (S := a2.view.set) (View.setOn_subset_set _ _)) $$ H2; iintro H2
  iapply (wp_load 𝒱₀ (c : Thread nD τ) none Set.univ (m := a3) (S := a3.view.set) (View.setOn_subset_set _ _)) $$ H3; iintro H3
  iapply (wp_load 𝒱₀ (c : Thread nD τ) none Set.univ (m := a1) (S := a1.view.set) (View.setOn_subset_set _ _)) $$ H1; iintro H1
  iapply (wp_load 𝒱₀ (c : Thread nD τ) none Set.univ (m := a4) (S := a4.view.set) (View.setOn_subset_set _ _)) $$ H4; iintro H4
  iapply (wp_store_writes₀ 𝒱₀ (c : Thread nD τ) none Set.univ (m := a4)
    (r := Rect.unit (s := S2048x64) ![0, 0] S2048x64.size inb_S2048x64_S2048x64_0_0) (S := a4.view.set) (View.set_slice_subset _ _)) $$ H4; iintro H4
  rw [wp_ret]
  imodintro
  iapply HQ
  isplitl [H1]; · iexists f1; isplitr; (· ipureintro; rfl); iexact H1
  isplitl [H2]; · iexists f2; isplitr; (· ipureintro; rfl); iexact H2
  isplitl [H3]; · iexists f3; isplitr; (· ipureintro; rfl); iexact H3
  iexists _; isplitr; swap; (· iexact H4)
  ipureintro
  rw [View.read_writes_eq_canon _ _ _ (fun y => ⟨_, List.mem_singleton_self _, View.mem_set_unit_zero zero2 inb_S2048x64_S2048x64_0_0 y⟩), View.canon_unit_zero zero2]
  simp only [View.readAt_eq_ld]
  rw [View.ld_unit_zero (S := S32x2048) zero2, View.ld_unit_zero (S := S32x2048) zero2, View.ld_unit_zero (S := S2048x64) zero2]

end Body

/-! ## The pipeline's proof data -/

section Region

variable (x o : Dev nD → Vec F S16384x64 .f32) (mp vp : Dev nD → Vec F S32x16384 .f32)

/-- The arrays as the region finds them. -/
def arrs (c : Dev nD) : (w : Fin cfg1.W) → Buf (Elt F) ((cfg1.win w).arr.view.loc (c : Thread nD τ))
  | ⟨0, _⟩ => x c
  | ⟨1, _⟩ => mp c
  | ⟨2, _⟩ => vp c
  | ⟨3, _⟩ => o c
  | ⟨_ + 4, h⟩ => absurd h (Nat.not_lt.2 (Nat.le_add_left _ _))

/-- Block `t` of each array that the body reads. -/
abbrev xBlk (x : Dev nD → Vec F S16384x64 .f32) (c : Dev nD) (t : Fin cfg1.N) : Vec F S2048x64 .f32 := ((cfg1.win 0).blk t).view.read (Elt F) (x c)
abbrev mBlk (mp : Dev nD → Vec F S32x16384 .f32) (c : Dev nD) (t : Fin cfg1.N) : Vec F S32x2048 .f32 := ((cfg1.win 1).blk t).view.read (Elt F) (mp c)
abbrev vBlk (vp : Dev nD → Vec F S32x16384 .f32) (c : Dev nD) (t : Fin cfg1.N) : Vec F S32x2048 .f32 := ((cfg1.win 2).blk t).view.read (Elt F) (vp c)

/-- The waits that the call before the region may have recorded. -/
def callWaits (c : Dev nD) : Set (SemLoc sig × HIx 1) := {p | (K (F := F)).lev ((c : Thread nD τ), p.1) p.2 ≤ 8 * 1}

/-- The proof data: each input window holds its block, the output window the normalised block; nothing is owed. -/
def dats (_ : Fin 1) (c : Dev nD) : Dat τ (Elt F) (HIx 1) ℕ UU ℕ cfg1 c where
  A := arrs x o mp vp c
  after w t := match w with
    | ⟨0, _⟩ => xBlk x c t
    | ⟨1, _⟩ => mBlk mp c t
    | ⟨2, _⟩ => vBlk vp c t
    | ⟨3, _⟩ => k1_pay1 (mBlk mp c t) (vBlk vp c t) (xBlk x c t)
    | ⟨_ + 4, h⟩ => absurd h (Nat.not_lt.2 (Nat.le_add_left _ _))
  Φ _ := iprop(emp)
  q _ := fullShare
  owed _ := 0
  recorded _ := callWaits (F := F) c

theorem before_0 (c : Dev nD) (t : Fin cfg1.N) (d) : (dats x o mp vp 0 c).before 0 t d = xBlk x c t := by
  rw [Dat.before_fetched _ _ _ (fetch1_0 t)]; rfl
theorem before_1 (c : Dev nD) (t : Fin cfg1.N) (d) : (dats x o mp vp 0 c).before 1 t d = mBlk mp c t := by
  rw [Dat.before_fetched _ _ _ (fetch1_1 t)]; rfl
theorem before_2 (c : Dev nD) (t : Fin cfg1.N) (d) : (dats x o mp vp 0 c).before 2 t d = vBlk vp c t := by
  rw [Dat.before_fetched _ _ _ (fetch1_2 t)]; rfl

theorem body_obligation (c : Dev nD) : BodyObligation (dats x o mp vp 0 c) (defs₀ (F := F)) 𝒱₀ none Set.univ := fun t => by
  rw [bigSep_W1, bigSep_W1]
  iintro ⟨-, HO, ⟨%d0, H0⟩, ⟨%d1, H1⟩, ⟨%d2, H2⟩, ⟨%d3, H3⟩⟩
  rw [before_0, before_1, before_2]
  iapply (wp_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (xBlk x c t) (mBlk mp c t) (vBlk vp c t) ((dats x o mp vp 0 c).before 3 t d3))
  isplitl [H0]; · iexact H0
  isplitl [H1]; · iexact H1
  isplitl [H2]; · iexact H2
  isplitl [H3]; · iexact H3
  iintro ⟨H0, H1, H2, H3⟩
  isplitr; · iempintro
  isplitl [HO]; · iexact HO
  isplitl [H0]; · iexact H0
  isplitl [H1]; · iexact H1
  isplitl [H2]; · iexact H2
  iexact H3

/-- The prefetched tables' contents: there is none. -/
abbrev adm : (p : Fin 1) → (pcfgs (F := F) p).Adm := fun p => (cfgs p).toPCfg_adm

/-- The four arrays, whole. -/
abbrev inX (c : Dev nD) (f : Vec F S16384x64 .f32) : sProp 𝕄 := ((c : Thread nD τ).loc main_arg0) ↦{fullShare} f
abbrev inMp (c : Dev nD) (f : Vec F S32x16384 .f32) : sProp 𝕄 := ((c : Thread nD τ).loc main_v0_0) ↦{fullShare} f
abbrev inVp (c : Dev nD) (f : Vec F S32x16384 .f32) : sProp 𝕄 := ((c : Thread nD τ).loc main_v0_1) ↦{fullShare} f
abbrev outO (c : Dev nD) (f : Vec F S16384x64 .f32) : sProp 𝕄 := ((c : Thread nD τ).loc main_v1) ↦{fullShare} f

/-- The result array after the run. -/
def result (c : Dev nD) : Vec F S16384x64 .f32 := (dats x o mp vp 0 c).arrAt 3 cfg1.N

/-- What the core owes between the statements: nothing, its recorded waits those of the call. -/
abbrev idle (c : Dev nD) : sProp 𝕄 :=
  iprop(∃ W, ⌜(K (F := F)).WBelow (T c) W (8 * 1)⌝ ∗ owes (c : Thread nD τ) (0 : CellTallies nD τ sig (HIx 1)) W)

theorem arrays_four (c : Dev nD) (G : (w : Fin cfg1.W) → Buf (Elt F) ((cfg1.win w).arr.view.loc (c : Thread nD τ))) :
    ((dats x o mp vp 0 c).arrays G : sProp 𝕄) = iprop(inX c (G 0) ∗ inMp c (G 1) ∗ inVp c (G 2) ∗ outO c (G 3)) := by
  rw [Pipeline.arrays_eq cfgs (dats x o mp vp) 0 c launch1.arr_whole ((dats x o mp vp 0 c).share_full fun _ => rfl) G]
  exact bigSep_W1 _

set_option backward.isDefEq.respectTransparency.types false in
/-- The region: entered with the four arrays whole, left with the result written. -/
def reg : Pipeline.RegionSeg (pcfgs (F := F)) adm (dats x o mp vp) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation x o mp vp c).loose
  hwaits := Pipeline.hwaits_of_owed_zero _ _ _ _ (K (F := F)).L (K (F := F)).lev 0 fun _ _ => rfl
  pre c := iprop(inX c (x c) ∗ inMp c (mp c) ∗ inVp c (vp c) ∗ outO c (o c) ∗ idle c)
  post c := iprop(inX c (x c) ∗ inMp c (mp c) ∗ inVp c (vp c) ∗ outO c (result x o mp vp c) ∗ idle c)
  X _ := iprop(emp)
  Y _ := iprop(emp)
  Z _ := iprop(emp)
  hentry c := by
    rw [show (dats x o mp vp 0 c).arrays ((dats x o mp vp 0 c).arrAt · 0) = _ from arrays_four x o mp vp c _]
    iintro ⟨⟨H0, H1, H2, H3, ⟨%W, %hW, HO⟩⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (dats x o mp vp 0 c).Φ 0 = iprop(emp) from rfl]
    iintro -; iempintro
  hout c := by
    rw [show (dats x o mp vp 0 c).Φ (Fin.last _) = iprop(emp) from rfl, Pipeline.ownSems0_none, scopedRest1_eq]
    iintro -
    isplitr; · iempintro
    isplitr <;> iempintro
  hexit c := by
    rw [show (dats x o mp vp 0 c).arrays ((dats x o mp vp 0 c).arrAt · cfg1.N) = _ from arrays_four x o mp vp c _,
      Dat.arrAt_in _ 0 rfl, Dat.arrAt_in _ 1 rfl, Dat.arrAt_in _ 2 rfl]
    unfold Pipeline.Dat.owesAt Pipeline.owesWithin
    iintro ⟨⟨H0, H1, H2, H3⟩, ⟨%W, %hW, HO⟩, -, -⟩
    imodintro
    isplitl [H0]; · iexact H0
    isplitl [H1]; · iexact H1
    isplitl [H2]; · iexact H2
    isplitl [H3]; · iexact H3
    iexists W; isplitr; swap; (· iexact HO)
    ipureintro
    intro p hp
    rcases hW hp with h | ⟨w, s, h⟩
    · exact h
    · rw [h]; exact Nat.zero_le _

end Region

end Cert.Proof.OfKernelIdeal

end
-- ==== Proof.RunKernelIdeal.lean ====
/-
  The launch: how the arrays go out to the thirty-two subcores and come back, @main on the TensorCore, and the run
  of the whole program, over any float instance: the arguments end unchanged, the result is the pipeline's over the
  two arrays of partial sums, and every semaphore counter ends at zero.
-/
module

public import proofs.«01_k».proof.Proof.RegionKernelIdeal

@[expose] public section

noncomputable section

namespace Cert.Proof.OfKernelIdeal

open Cert.KernelIdeal Cert.KernelIdeal.Gen
open Cert.EdgeSums

open Idealize.ShloMosaic Idealize.ShloMosaic.ValueIdx
open Idealize.ShloMosaic.TcCoe
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## What one subcore takes and brings back, and all of them together -/

section Deal

variable (d : Dev nD)

abbrev xLoc : Loc nD τ sig := (SparseCore.T d).loc main_arg0
abbrev meanLoc : Loc nD τ sig := (SparseCore.T d).loc main_arg1
abbrev varLoc : Loc nD τ sig := (SparseCore.T d).loc main_arg2
abbrev rowLoc : Loc nD τ sig := (SparseCore.T d).loc main_arg3
abbrev colLoc : Loc nD τ sig := (SparseCore.T d).loc main_arg4
abbrev mpLoc : Loc nD τ sig := (SparseCore.T d).loc main_v0_0
abbrev vpLoc : Loc nD τ sig := (SparseCore.T d).loc main_v0_1
abbrev outLoc : Loc nD τ sig := (SparseCore.T d).loc main_v1

/-- Subcore `w`'s read share of an array that all of them read. -/
abbrev share (w : Fin 32) : PosShare TreeShare := Transfers.dealOf fullShare Finset.univ w

/-- The four arrays that the subcores read. -/
abbrev reads (q : PosShare TreeShare) (fm fv : Vec F S16384 .f32) (row col : IVec S2097152 32) : sProp 𝕄 :=
  iprop((meanLoc d ↦{q} fm) ∗ (varLoc d ↦{q} fv) ∗ (rowLoc d ↦{q} row) ∗ colLoc d ↦{q} col)

/-- Subcore `w`'s part of the call: its shares of the four arrays, its row of each array of parts. -/
abbrev piece (fm fv : Vec F S16384 .f32) (row col : IVec S2097152 32) (f g : Vec F S32x16384 .f32) (w : Fin 32) : sProp 𝕄 :=
  iprop(reads d (share w) fm fv row col ∗ (mpLoc d ↦[rowSet w]{fullShare} f) ∗ vpLoc d ↦[rowSet w]{fullShare} g)

/-- The six arrays whole. -/
abbrev wholes (fm fv : Vec F S16384 .f32) (row col : IVec S2097152 32) (f g : Vec F S32x16384 .f32) : sProp 𝕄 :=
  iprop(reads d fullShare fm fv row col ∗ (mpLoc d ↦{fullShare} f) ∗ vpLoc d ↦{fullShare} g)

theorem rowSet_disjoint : ∀ w ∈ (Finset.univ : Finset (Fin 32)), ∀ w' ∈ (Finset.univ : Finset (Fin 32)), w ≠ w' → Disjoint (rowSet w) (rowSet w') := by
  intro w _ w' _ h
  rw [Finset.disjoint_left]
  intro j hj hj'
  exact h (Fin.ext ((Finset.mem_filter.mp hj).2.symm.trans (Finset.mem_filter.mp hj').2))

theorem rowSet_cover : (Finset.univ : Finset (Fin 32)).biUnion rowSet = Finset.univ :=
  Finset.eq_univ_of_forall fun j => Finset.mem_biUnion.mpr ⟨j 0, Finset.mem_univ _, Finset.mem_filter.mpr ⟨Finset.mem_univ _, rfl⟩⟩

theorem mp_rows (f : Vec F S32x16384 .f32) :
    (mpLoc d ↦{fullShare} f : sProp 𝕄) = bigSep Finset.univ fun w : Fin 32 => mpLoc d ↦[rowSet w]{fullShare} f := by
  rw [← pointsTo_biUnion Finset.univ (ℓ := mpLoc d) rowSet rowSet_disjoint, rowSet_cover]; try rfl
theorem vp_rows (f : Vec F S32x16384 .f32) :
    (vpLoc d ↦{fullShare} f : sProp 𝕄) = bigSep Finset.univ fun w : Fin 32 => vpLoc d ↦[rowSet w]{fullShare} f := by
  rw [← pointsTo_biUnion Finset.univ (ℓ := vpLoc d) rowSet rowSet_disjoint, rowSet_cover]; try rfl

theorem deal_all {ℓ : Loc nD τ sig} (f : Buf (Elt F) ℓ) :
    (ℓ ↦{fullShare} f : sProp 𝕄) = bigSep Finset.univ fun w : Fin 32 => ℓ ↦{share w} f :=
  Transfers.pointsTo_deal Finset.univ Finset.univ_nonempty fullShare

/-- The six arrays whole are the thirty-two parts. -/
theorem wholes_eq (fm fv : Vec F S16384 .f32) (row col : IVec S2097152 32) (f g : Vec F S32x16384 .f32) :
    (wholes d fm fv row col f g : sProp 𝕄) = bigSep Finset.univ fun w : Fin 32 => piece d fm fv row col f g w := by
  unfold wholes piece reads
  rw [bigSep_sep', bigSep_sep', bigSep_sep', bigSep_sep', bigSep_sep', ← deal_all, ← deal_all, ← deal_all, ← deal_all, ← mp_rows, ← vp_rows]

/-- Core `c`'s subcore `i` of the grid. -/
def coordsV (c : Fin (grid0.bound 0)) (s : Fin (grid0.bound 1)) : grid0.Coords :=
  fun | 0 => c | 1 => s | ⟨_ + 2, h⟩ => absurd h (Nat.not_lt.2 (Nat.le_add_left _ _))

/-- Its number. -/
abbrev wOf (c : Fin 2) (i : Fin 16) : Fin 32 := widF (coordsV c i)

/-- The subcores taken core by core are the thirty-two. -/
theorem bigSep_tiles (Φ : Fin 32 → sProp 𝕄) :
    (bigSep Finset.univ fun c : Fin 2 => bigSep Finset.univ fun i : Fin 16 => Φ (wOf c i)) = bigSep Finset.univ Φ := by
  rw [bigSep_univ_equiv ((Equiv.prodComm (Fin 2) (Fin 16)).trans finProdFinEquiv) Φ, bigSep_univ_prod]
  refine bigSep_congr fun c _ => bigSep_congr fun i _ => congrArg Φ (Fin.ext ?_)
  show 2 * i.val + c.val = c.val + 2 * i.val
  omega

end Deal

/-! ## What the call's handshakes carry -/

variable [FloatOps F]
variable (m : (ℓ : Loc nD τ sig) → Buf (Elt F) ℓ) (ρ : Dev nD → PrngReg)

/-- What the proof asks of the launch memory: every edge's two ends are neurons. -/
def PreOK : Prop := ∀ d : Dev nD, (∀ j, (m (rowLoc d) j : BitVec 32).toNat < 16384) ∧ ∀ j, (m (colLoc d) j : BitVec 32).toNat < 16384

section Run

variable (hp : PreOK m)

abbrev meanParts (d : Dev nD) : Vec F S32x16384 .f32 := parts (m (meanLoc d)) (m (rowLoc d)) (m (colLoc d)) (hp d).1 (hp d).2
abbrev varParts (d : Dev nD) : Vec F S32x16384 .f32 := parts (m (varLoc d)) (m (rowLoc d)) (m (colLoc d)) (hp d).1 (hp d).2

abbrev goes (d : Dev nD) (w : Fin 32) : sProp 𝕄 :=
  piece d (m (meanLoc d)) (m (varLoc d)) (m (rowLoc d)) (m (colLoc d)) (m (mpLoc d)) (m (vpLoc d)) w
abbrev comes (d : Dev nD) (w : Fin 32) : sProp 𝕄 :=
  piece d (m (meanLoc d)) (m (varLoc d)) (m (rowLoc d)) (m (colLoc d)) (meanParts m hp d) (varParts m hp d) w

def P : (K (F := F)).Pay (nD := nD) (Val := Elt F) (Name := ℕ) (U := UU) where
  st := fun q d c => match q with | 0 => bigSep Finset.univ fun i : Fin 16 => goes m d (wOf c i)
  dn := fun q d c => match q with | 0 => bigSep Finset.univ fun i : Fin 16 => comes m hp d (wOf c i)
  go := fun q d c i => match q with | 0 => goes m d (wOf c i)
  td := fun q d c i => match q with | 0 => comes m hp d (wOf c i)
  x := fun _ _ => iprop(emp)

instance P_storable : (P m hp).IsStorable where
  st q d c := match q with
    | 0 => (inferInstance : BI.Storable (upEmb : UEmb _ 𝕄) (bigSep Finset.univ fun i : Fin 16 => goes m d (wOf c i)))
  dn q d c := match q with
    | 0 => (inferInstance : BI.Storable (upEmb : UEmb _ 𝕄) (bigSep Finset.univ fun i : Fin 16 => comes m hp d (wOf c i)))
  go q d c i := match q with
    | 0 => (inferInstance : BI.Storable (upEmb : UEmb _ 𝕄) (goes m d (wOf c i)))
  td q d c i := match q with
    | 0 => (inferInstance : BI.Storable (upEmb : UEmb _ 𝕄) (comes m hp d (wOf c i)))

/-! ## The obligation of the tasks -/

theorem defs₀_vector (c : Fin τ.nSC) (s : Fin τ.nSub) :
    defs₀ (F := F) (.scVector c s) 0 ()
      = SparseCore.onTile hcore0 hsub0 (fun c s => onTile (coordsV c s) (cc0_k (F := F))) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A subcore's part of the call is what its task takes. -/
theorem goes_given (d : Dev nD) (L : grid0.Coords) :
    goes m d (widF L) ⊢ given d L (m (meanLoc d)) (m (varLoc d)) (m (rowLoc d)) (m (colLoc d)) (share (widF L)) := by
  iintro ⟨⟨Hm, Hv, Hr, Hc⟩, Hp, Hq⟩
  isplitl [Hm]; · iexact Hm
  isplitl [Hv]; · iexact Hv
  isplitl [Hr]; · iexact Hr
  isplitl [Hc]; · iexact Hc
  isplitl [Hp]
  · iexists m (mpLoc d); iexact Hp
  · iexists m (vpLoc d); iexact Hq

theorem brought_comes (d : Dev nD) (L : grid0.Coords) :
    brought d L (m (meanLoc d)) (m (varLoc d)) (m (rowLoc d)) (m (colLoc d)) (hp d).1 (hp d).2 (share (widF L)) ⊢ comes m hp d (widF L) := by
  iintro ⟨Hm, Hv, Hr, Hc, Hp, Hq⟩
  isplitl [Hm Hv Hr Hc]
  · isplitl [Hm]; · iexact Hm
    isplitl [Hv]; · iexact Hv
    isplitl [Hr] <;> iassumption
  isplitl [Hp]; · iexact Hp
  iexact Hq

/-- The task from its part of the call to what it brings back. -/
theorem task (hF : (K (F := F)).Facts) (d : Dev nD) (L : grid0.Coords) (O : CellTallies nD τ sig (HIx 1)) (W : Waits sig (HIx 1)) (hO : ∀ g, O g none = 0) :
    iprop(levAts (K (F := F)).L (K (F := F)).lev ∗ emp ∗ goes m d (widF L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (onTile L cc0_k)
          fun _ => iprop(comes m hp d (widF L)
            ∗ scopedBufs (V d (cV L) (jV L)) ∗ scopedSems0 (V d (cV L) (jV L))
            ∗ ∃ W', ⌜∀ p ∈ W', p ∈ W ∨ p.2 = none⌝ ∗ owes (V d (cV L) (jV L)) O W') :=
  (sep_mono_right (sep_mono_right (sep_mono_left (goes_given m d L)))).trans <|
    (tile_body d L _ _ _ _ (hp d).1 (hp d).2 hF O W hO (share (widF L))).trans
      (wp_mono frame _ _ fun _ => sep_mono_left (brought_comes m hp d L))

set_option maxRecDepth 16384 in
theorem tileObl (hF : (K (F := F)).Facts) : (K (F := F)).TileObl (D (F := F)) 𝒱 (P m hp) v₀ 0 := by
  intro d c i O W hO _ _
  simp only [show (P m hp).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m hp hF d (coordsV ⟨_, hci.1⟩ ⟨_, hci.2⟩) O W hO).trans (wp_mono frame _ _ fun _ => obl_post)

theorem vecSplit : (K (F := F)).VecSplit' (P m hp) 0 := by
  intro d c
  show (bigSep Finset.univ fun i : Fin 16 => goes m d (wOf c i)) ⊢ |={Set.univ}=> iprop(
      (bigSep Finset.univ fun i : Fin 16 => goes m d (wOf c i))
      ∗ ((bigSep Finset.univ fun i : Fin 16 => comes m hp d (wOf c i)) -∗ bigSep Finset.univ fun i : Fin 16 => comes m hp d (wOf c i)))
  iintro H; imodintro
  isplitl [H]; · iexact H
  iintro H; iexact H

/-! ## The launch element of the ghost state -/

/-- The pipeline's ghost state on one device. -/
abbrev Gh (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) cfgs cellOf_inj) (Pipeline.launchToks (nD := nD) (τ := τ) cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P m hp).x q thr) := by
  unfold u₀
  iintro Hu
  ihave H := (ownU_pair (initOf (K (F := F)).hsCells (K (F := F)).hsToks)
    (initOf (Pipeline.cells (nD := nD) (τ := τ) cfgs cellOf_inj) (Pipeline.launchToks (nD := nD) (τ := τ) cfgs cellOf_inj), (1 : Counters))) $$ Hu
  icases H with ⟨HH, HR⟩
  ihave H2 := (own_pair_emb (embR (A := UH) (B := UP × Counters)) (initOf (Pipeline.cells (nD := nD) (τ := τ) cfgs cellOf_inj) (Pipeline.launchToks (nD := nD) (τ := τ) cfgs cellOf_inj)) (1 : Counters)) $$ HR
  icases H2 with ⟨HP, -⟩
  imod (Pipeline.fund_ghost cfgs (EP (F := F)) cellOf_inj) $$ HP with ⟨Hc, Ht⟩
  imodintro
  isplitl [HH]; · iexact HH
  isplitl [Hc Ht]
  · rw [bigSep_sep']
    isplitl [Hc]
    · iapply (Entails.of_eq (bigSep_congr fun d _ => bigSep_univ_of_subsingleton (0 : Fin 1))) $$ Hc
    · iapply (Entails.of_eq (bigSep_congr fun d _ => bigSep_univ_of_subsingleton (0 : Fin 1))) $$ Ht
  rw [show (bigSep Finset.univ fun thr : Thread nD τ => bigSep Finset.univ fun q : Fin 1 => (P m hp).x q thr) = bigSep Finset.univ fun _ => iprop(emp) from
    bigSep_congr fun _ _ => bigSep_univ_of_subsingleton (0 : Fin 1),
    show (bigSep Finset.univ fun _ : Thread nD τ => iprop(emp)) = (iprop(emp) : sProp 𝕄) from bigSep_emp_const _]
  iempintro

/-! ## @main on the TensorCore -/

theorem unscopedBufs_eq (d : Dev nD) (W : (b : Ref sig .tc) → Buf (Elt F) ((d.tc : Thread nD τ).loc b)) :
    (unscopedBufs d W : sProp 𝕄) = iprop((xLoc d ↦{fullShare} W main_arg0) ∗ (meanLoc d ↦{fullShare} W main_arg1) ∗ (varLoc d ↦{fullShare} W main_arg2)
      ∗ (rowLoc d ↦{fullShare} W main_arg3) ∗ (colLoc d ↦{fullShare} W main_arg4) ∗ (mpLoc d ↦{fullShare} W main_v0_0) ∗ (vpLoc d ↦{fullShare} W main_v0_1)
      ∗ outLoc d ↦{fullShare} W main_v1) := by
  unfold unscopedBufs
  rw [show (Finset.univ.filter fun b : Ref sig .tc => ¬ b.isScoped) = {main_arg0, main_arg1, main_arg2, main_arg3, main_arg4, main_v0_0, main_v0_1, main_v1} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem st0_eq (d : Dev nD) : (bigSep Finset.univ fun c : Fin ((K (F := F)).nCore 0) => (P m hp).st 0 d c)
    = wholes d (m (meanLoc d)) (m (varLoc d)) (m (rowLoc d)) (m (colLoc d)) (m (mpLoc d)) (m (vpLoc d)) :=
  (bigSep_tiles fun w => goes m d w).trans (wholes_eq d _ _ _ _ _ _).symm
theorem dn0_eq (d : Dev nD) : (bigSep Finset.univ fun c : Fin ((K (F := F)).nCore 0) => (P m hp).dn 0 d c)
    = wholes d (m (meanLoc d)) (m (varLoc d)) (m (rowLoc d)) (m (colLoc d)) (meanParts m hp d) (varParts m hp d) :=
  (bigSep_tiles fun w => comes m hp d w).trans (wholes_eq d _ _ _ _ _ _).symm

variable [∀ e, Nonempty (Elt F e)]

/-- The result array at the end of the run. -/
abbrev final (d : Dev nD) : Vec F S16384x64 .f32 := result (fun d => m (xLoc d)) (fun d => m (outLoc d)) (meanParts m hp) (varParts m hp) d

abbrev FIN (d : Dev nD) : sProp 𝕄 :=
  iprop((xLoc d ↦{fullShare} m (xLoc d)) ∗ reads d fullShare (m (meanLoc d)) (m (varLoc d)) (m (rowLoc d)) (m (colLoc d)) ∗ outLoc d ↦{fullShare} final m hp d)

theorem reg_pre (d : Dev nD) (x o : Dev nD → Vec F S16384x64 .f32) (mp vp : Dev nD → Vec F S32x16384 .f32) :
    (reg x o mp vp).pre d = iprop(inX d (x d) ∗ inMp d (mp d) ∗ inVp d (vp d) ∗ outO d (o d) ∗ idle d) := rfl
theorem reg_post (d : Dev nD) (x o : Dev nD → Vec F S16384x64 .f32) (mp vp : Dev nD → Vec F S32x16384 .f32) :
    (reg x o mp vp).post d = iprop(inX d (x d) ∗ inMp d (mp d) ∗ inVp d (vp d) ∗ outO d (result x o mp vp d) ∗ idle d) := rfl

/-- The second statement, before it is lifted to the whole program's table. -/
theorem wp_region (d : Dev nD) (x o : Dev nD → Vec F S16384x64 .f32) (mp vp : Dev nD → Vec F S32x16384 .f32) :
    iprop(boundary (SparseCore.T d) ∗ (inX d (x d) ∗ inMp d (mp d) ∗ inVp d (vp d) ∗ outO d (o d) ∗ idle d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (SparseCore.T d) none) Set.univ (.op (.customCall (Pipeline.entry 0) ()) .ret)
          fun _ => iprop(boundary (SparseCore.T d) ∗ (inX d (x d) ∗ inMp d (mp d) ∗ inVp d (vp d) ∗ outO d (result x o mp vp d) ∗ idle d)) := by
  iintro ⟨Hb, Hpre, #Hl, Hg, Ht⟩
  iapply (Pipeline.RegionSeg.wp (pcfgs (F := F)) adm (dats x o mp vp) none cellOf_inj EP defs₀ 𝒱₀ (K (F := F)).L (K (F := F)).lev (reg x o mp vp) d none
    (fun u hu => nomatch hu) .ret _)
  isplitr [Hb Hpre Hg Ht]
  · rw [reg_post, wp_ret]
    iintro ⟨Hb, Hpost⟩
    imodintro
    isplitl [Hb] <;> iassumption
  isplitl [Hb]; · iexact Hb
  isplitl [Hpre]; · rw [reg_pre]; iexact Hpre
  isplitr; · iexact Hl
  isplitl [Hg] <;> iassumption

/-- The second statement: the pipeline's region, on the arrays whole. -/
theorem wp_second (d : Dev nD) (x o : Dev nD → Vec F S16384x64 .f32) (mp vp : Dev nD → Vec F S32x16384 .f32) :
    iprop(boundary (SparseCore.T d) ∗ (inX d (x d) ∗ inMp d (mp d) ∗ inVp d (vp d) ∗ outO d (o d) ∗ idle d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ()))
          fun _ => iprop(boundary (SparseCore.T d) ∗ (inX d (x d) ∗ inMp d (mp d) ∗ inVp d (vp d) ∗ outO d (result x o mp vp d) ∗ idle d)) := by
  have e : (Prog.lift (.customCall (SparseCore.inner (Pipeline.entry 0)) ()) : Prog (TpuEff nD τ sig (Elt F) (SparseCore.Sig (ΛP (F := F)) 1) .tc) PUnit)
      = SparseCore.liftProg (Q := 1) (.op (.customCall (Pipeline.entry 0) ()) .ret) := rfl
  have hl := fun Φ : PUnit → sProp 𝕄 => (K (F := F)).wp_liftProg (D (F := F)) 𝒱 (SparseCore.T d) Set.univ none (.op (.customCall (Pipeline.entry 0) ()) .ret) Φ
  rw [e]
  exact (wp_region d x o mp vp).trans (hl _)

theorem Otc_one (d : Dev nD) : (K (F := F)).Otc d 1 = 0 := by
  unfold SparseCore.Cfg.Otc
  exact Finset.sum_eq_zero fun q _ => if_neg (by have := q.isLt; omega)

/-- @main on device `d`'s TensorCore: the SparseCore call, then the pipeline. -/
theorem hmain (κ : GSem nD τ sig → ℕ) (d : Dev nD) :
    iprop((K (F := F)).ctx EH (P m hp) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m hp d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hm, Hv, Hr, Hc, Hp, Hq, Ho⟩, Hts, -⟩, Hg⟩
  ihave #Hl := (SparseCore.Cfg.ctx_levAts κ) $$ Hctx
  iapply ((K (F := F)).wp_run (D (F := F)) 𝒱 (EH := EH) (P := P m hp) κ d 0) $$ [Hst Hx Hm Hv Hr Hc Hp Hq Ho Hb Hts Hg]
  isplitr; · iexact Hctx
  isplitl [Hst]; · iexact Hst
  isplitl [Hm Hv Hr Hc Hp Hq]
  · rw [st0_eq]
    isplitl [Hm Hv Hr Hc]
    · isplitl [Hm]; · iexact Hm
      isplitl [Hv]; · iexact Hv
      isplitl [Hr] <;> iassumption
    isplitl [Hp] <;> iassumption
  iintro ⟨Hst, Hdn⟩
  ihave Hdn' := (Entails.of_eq (dn0_eq m hp d)) $$ Hdn
  icases Hdn' with ⟨Hrd, Hp, Hq⟩
  unfold SparseCore.Cfg.tcSt
  icases Hst with ⟨⟨%W, %hW, HO⟩, Hrest⟩
  have hsec := wp_second d (fun d => m (xLoc d)) (fun d => m (outLoc d)) (meanParts m hp) (varParts m hp)
  ihave Hw := hsec $$ [Hx Hp Hq Ho Hb Hg HO]
  · isplitl [Hb]; · iexact Hb
    isplitl [Hx Hp Hq Ho HO]
    · isplitl [Hx]; · iexact Hx
      isplitl [Hp]; · iexact Hp
      isplitl [Hq]; · iexact Hq
      isplitl [Ho]; · iexact Ho
      iexists W; isplitr; · ipureintro; exact hW
      rw [← Otc_one (F := F) d]; iexact HO
    isplitr; · iexact Hl
    iexact Hg
  iapply wp_wand_r $$ [Hw Hrest Hrd Hts]
  isplitl [Hw]; · iexact Hw
  iintro %_ ⟨Hb, Hx, Hp, Hq, Ho, ⟨%W', %hW', HO⟩⟩
  imodintro
  isplitl [HO Hrest]
  · isplitl [HO]
    · iexists W'; isplitr; · ipureintro; exact hW'
      rw [Otc_one (F := F) d]; iexact HO
    iexact Hrest
  isplitl [Hx Hrd Ho]
  · isplitl [Hx]; · iexact Hx
    isplitl [Hrd] <;> iassumption
  isplitl [Hb] <;> iassumption

def fq (d : Dev nD) (s' : Phys nD τ sig (Elt F)) : Prop :=
  (s'.mem.mem (xLoc d) = m (xLoc d) ∧ s'.mem.mem (meanLoc d) = m (meanLoc d) ∧ s'.mem.mem (varLoc d) = m (varLoc d)
    ∧ s'.mem.mem (rowLoc d) = m (rowLoc d) ∧ s'.mem.mem (colLoc d) = m (colLoc d)) ∧ s'.mem.mem (outLoc d) = final m hp d

/-- An array held whole is what the memory holds. -/
theorem whole_agree {ℓ : Loc nD τ sig} (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m hp d ∗ SI s') ⊢ (⌜fq m hp d s'⌝ : sProp 𝕄) := by
  iintro ⟨⟨Hx, ⟨Hm, Hv, Hr, Hc⟩, Ho⟩, HSI⟩
  ihave H := (whole_agree _ s') $$ [Hx HSI]
  · isplitl [Hx] <;> iassumption
  icases H with ⟨%hx, HSI⟩
  ihave H := (whole_agree _ s') $$ [Hm HSI]
  · isplitl [Hm] <;> iassumption
  icases H with ⟨%hm, HSI⟩
  ihave H := (whole_agree _ s') $$ [Hv HSI]
  · isplitl [Hv] <;> iassumption
  icases H with ⟨%hv, HSI⟩
  ihave H := (whole_agree _ s') $$ [Hr HSI]
  · isplitl [Hr] <;> iassumption
  icases H with ⟨%hr, HSI⟩
  ihave H := (whole_agree _ s') $$ [Hc HSI]
  · isplitl [Hc] <;> iassumption
  icases H with ⟨%hc, HSI⟩
  ihave H := (whole_agree _ s') $$ [Ho HSI]
  · isplitl [Ho] <;> iassumption
  icases H with ⟨%ho, -⟩
  ipureintro; exact ⟨⟨hx, hm, hv, hr, hc⟩, ho⟩

/-! ## The program's run -/

def QC : PUnit × MemSt nD τ sig (Elt F) → Prop := fun r =>
  (∀ d : Dev nD, (r.2.mem (xLoc d) = m (xLoc d) ∧ r.2.mem (meanLoc d) = m (meanLoc d) ∧ r.2.mem (varLoc d) = m (varLoc d)
    ∧ r.2.mem (rowLoc d) = m (rowLoc d) ∧ r.2.mem (colLoc d) = m (colLoc d)) ∧ r.2.mem (outLoc d) = final m hp d) ∧ r.2.sem = fun _ => 0

theorem run_main : θ_run (Cert.KernelIdeal.defs (F := F)) (Cert.KernelIdeal.threads (F := F)) ⟨m, fun _ => 0, ρ⟩ (QC m hp) :=
  SparseCore.Cfg.θ_run_sc_quiescent (K := K (F := F)) (D := D (F := F)) (𝒱 := 𝒱) (EH := EH) (P := P m hp) (A := ∅) facts v₀
    (fun q hq => match q with | 0 => nomatch hq)
    (fun q _ => match q with | 0 => tileObl m hp facts)
    (fun q _ => match q with | 0 => SparseCore.Cfg.VecSplit.of_plain (vecSplit m hp))
    m ρ main Gh (FIN m hp) (u₀ (F := F)) (sep_elim_left.trans (hu₀ m hp)) (hmain m ρ hp) (fq m hp) (hfin m hp) (QC m hp) (fun _ h hz => ⟨h, hz⟩)

end Run

end Cert.Proof.OfKernelIdeal

end
-- ==== Proof.Frames.lean ====
/-
  The frame claims: each program runs to its end from any memory of which its precondition holds, leaves its argument
  arrays as they were, and leaves every semaphore counter at zero.
-/
module

public import proofs.«01_k».proof.Defs
public import proofs.«01_k».proof.Proof.Ranges
public import proofs.«01_k».proof.Proof.RunKernel
public import proofs.«01_k».proof.Proof.RunKernelIdeal
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic

/-- The kernel's precondition puts its indices in range. -/
theorem ok_kernel {m : (ℓ : Loc Cert.Kernel.nD Cert.Kernel.τ Cert.Kernel.sig) → Buf (Elt Bits) ℓ} (h : Cert.Pre_Kernel m) :
    Cert.Proof.OfKernel.PreOK m := fun d => Cert.Ranges.of_in_range (h d)

/-- So does the ideal kernel's. -/
theorem ok_ideal {m : (ℓ : Loc Cert.KernelIdeal.nD Cert.KernelIdeal.τ Cert.KernelIdeal.sig) → Buf (Elt Ideal) ℓ} (h : Cert.Pre_KernelIdeal m) :
    Cert.Proof.OfKernelIdeal.PreOK m := fun d => Cert.Ranges.of_in_range (h d)

/-- And so does the precondition that keeps the divisor from zero. -/
theorem ok_nonzero {m : (ℓ : Loc Cert.KernelIdeal.nD Cert.KernelIdeal.τ Cert.KernelIdeal.sig) → Buf (Elt Ideal) ℓ}
    (h : Cert.Pre_KernelIdeal_nonzero_divisor m) :
    Cert.Proof.OfKernelIdeal.PreOK m := fun d => (Cert.Ranges.of_nonzero_divisor (h d)).1

theorem frame_kernel : Cert.quiescent_Kernel := fun m ρ h =>
  (θ_run Cert.Kernel.defs _ _).mono (fun _ hr => ⟨fun c => (hr.1 c).1, hr.2⟩) (Cert.Proof.OfKernel.run_main m ρ (ok_kernel h))

theorem frame_ideal : Cert.quiescent_KernelIdeal := fun m ρ h =>
  (θ_run Cert.KernelIdeal.defs _ _).mono (fun _ hr => ⟨fun c => (hr.1 c).1, hr.2⟩) (Cert.Proof.OfKernelIdeal.run_main m ρ (ok_ideal h))

theorem frame_ideal_nonzero : Cert.quiescent_KernelIdeal_pre_nonzero_divisor := fun m ρ h =>
  (θ_run Cert.KernelIdeal.defs _ _).mono (fun _ hr => ⟨fun c => (hr.1 c).1, hr.2⟩) (Cert.Proof.OfKernelIdeal.run_main m ρ (ok_nonzero h))

/-- The reference declares no semaphore. -/
theorem frame_reference : Cert.quiescent_ReferenceIdeal := fun m ρ _ =>
  (θ_run Cert.ReferenceIdeal.defs _ _).mono (fun r hr => ⟨fun c => (hr c).2, sem_eq_zero_of_no_sems (by decide) r.2⟩)
    (Cert.ReferenceIdeal.Value.run (F := Ideal) m ρ)

theorem frame_reference_nonzero : Cert.quiescent_ReferenceIdeal_pre_nonzero_divisor := fun m ρ _ => frame_reference m ρ trivial

end Cert.Frames

end
-- ==== Proof.IdealSums.lean ====
/-
  The partial sums over the ideal numbers: there the order of the additions does not matter, so the thirty-two
  accumulators of one neuron add up to the sum, over all edges, of the values at the columns of the edges whose row it is.
-/
module

public import proofs.«01_k».proof.Proof.EdgeSums
public import Idealize.ShloMosaic.Lib.IdealHost

@[expose] public section

noncomputable section

open scoped BigOperators

namespace Cert.EdgeSums

open Idealize.ShloMosaic Idealize.ShloMosaic.ValueIdx

section Folds

/-- A left fold that adds, at each step, one number to the entry that the step names, read at one entry. -/
theorem foldl_addAt {ι I : Type} [DecidableEq I] (v : ι → EReal) (at' : ι → I) (step : (I → EReal) → ι → I → EReal)
    (hstep : ∀ g k j, step g k j = if j = at' k then g j + v k else g j) (l : List ι) (g : I → EReal) (j : I) :
    l.foldl step g j = g j + (l.map fun k => if j = at' k then v k else 0).sum := by
  induction l generalizing g with
  | nil => simp
  | cons a l ih =>
    rw [List.foldl_cons, ih, hstep, List.map_cons, List.sum_cons]
    split
    · rw [add_assoc]
    · rw [zero_add]

/-- The first `n * k` terms, `k` at a time. -/
theorem sum_range_mul {M : Type} [AddCommMonoid M] (f : ℕ → M) (k n : ℕ) :
    ∑ w ∈ Finset.range n, ∑ e ∈ Finset.range k, f (k * w + e) = ∑ e ∈ Finset.range (k * n), f e := by
  induction n with
  | zero => simp
  | succ n ih => rw [Finset.sum_range_succ, ih, Nat.mul_succ, Finset.sum_range_add]

end Folds

variable (val : Neurons.Idx → EReal) (row col : IVec Edges 32) (hr : ∀ j, (row j).toNat < 16384) (hc : ∀ j, (col j).toNat < 16384)

/-- What edge `e` adds to neuron `i`: the value at the edge's column if the edge's row is `i`. -/
def term (i : Fin 16384) (e : Fin 2097152) : EReal :=
  if (row (ix1 e)).toNat = i.val then val (ix1 ⟨(col (ix1 e)).toNat, hc _⟩) else 0

/-- The sparse product's entry at neuron `i`: the sum over all edges. -/
def edgeSum (i : Fin 16384) : EReal := ∑ e : Fin 2097152, term val row col hc i e

/-- Sixteen edges more. -/
theorem addLanes_apply (n : ℕ) (g : Neurons.Idx → EReal) (i : Fin 16384) :
    addLanes (F := Ideal) val row col hr hc n g (ix1 i) = g (ix1 i) + ∑ k ∈ Finset.range 16, term val row col hc i (Fin.ofNat 2097152 (n + k)) := by
  rw [← Fin.sum_univ_eq_sum_range (fun k => term val row col hc i (Fin.ofNat 2097152 (n + k))) 16, Fin.sum_univ_def]
  have hs : ∀ (h : ∀ a x, ((![lanes row n] : Fin 1 → IVec ⟨1, ![16]⟩ 32) a x).toNat < Neurons.size a) (f : Neurons.Idx → EReal) (k : Fin 16) (j : Neurons.Idx),
      (if ∀ a, (j a).val = (idxAt (s := Neurons) ![lanes row n] h (ix1 k) a).val
          then f (idxAt (s := Neurons) ![lanes row n] h (ix1 k)) + val (ix1 ⟨(lanes col n (ix1 k)).toNat, hc _⟩) else f j)
        = if j = ix1 ⟨(lanes row n (ix1 k)).toNat, hr _⟩ then f j + val (ix1 ⟨(lanes col n (ix1 k)).toNat, hc _⟩) else f j := fun h f k j => by
    have e : idxAt (s := Neurons) ![lanes row n] h (ix1 k) = ix1 ⟨(lanes row n (ix1 k)).toNat, hr _⟩ := by
      funext a; match a with | ⟨0, _⟩ => rfl
    rw [e]
    by_cases hj : j = ix1 ⟨(lanes row n (ix1 k)).toNat, hr _⟩
    · rw [if_pos hj, if_pos (fun a => by rw [hj]), hj]
    · rw [if_neg hj, if_neg (fun h => hj (funext fun a => Fin.ext (h a)))]
  refine Eq.trans ?_ ((foldl_addAt (fun k : Fin 16 => val (ix1 ⟨(lanes col n (ix1 k)).toNat, hc _⟩))
    (fun k : Fin 16 => ix1 ⟨(lanes row n (ix1 k)).toNat, hr _⟩)
    (fun f k j => if ∀ a, (j a).val = (idxAt (s := Neurons) ![lanes row n] (lanes_lt hr n) (ix1 k) a).val
          then f (idxAt (s := Neurons) ![lanes row n] (lanes_lt hr n) (ix1 k)) + val (ix1 ⟨(lanes col n (ix1 k)).toNat, hc _⟩) else f j)
    (hs (lanes_lt hr n)) (List.finRange 16) g (ix1 i)).trans ?_)
  · unfold addLanes storeIdx
    have key : ∀ (A B : (Neurons.Idx → EReal) → Fin 16 → Neurons.Idx → EReal), A = B →
        List.foldl A g (List.finRange 16) (ix1 i) = List.foldl B g (List.finRange 16) (ix1 i) := by rintro A _ rfl; rfl
    refine key _ _ (funext fun f => funext fun k => funext fun j => ?_)
    have e : (Shape.ofLane (d := ![16]) k) = ix1 k := by funext a; match a with | ⟨0, _⟩ => rfl
    have e' : loadIdx (F := Ideal) (s := Neurons) (e := .f32) val ![lanes col n] (lanes_lt hc n) (ix1 k) = val (ix1 ⟨(lanes col n (ix1 k)).toNat, hc _⟩) := by
      refine congrArg val (funext fun a => ?_)
      match a with | ⟨0, _⟩ => rfl
    simp only [e, if_true, Elt.idxAdd_f32, Ideal.idxAddf_def]
    rw [if_pos (show (1#1 : BitVec 1) = 1 from rfl)]
    exact if_congr Iff.rfl (congrArg (f _ + ·) e') rfl
  · refine congrArg (g (ix1 i) + ·) (congrArg List.sum (List.map_congr_left fun k _ => ?_))
    show (if ix1 i = ix1 (⟨(lanes row n (ix1 k)).toNat, hr _⟩ : Fin 16384) then _ else _) = _
    unfold term
    refine if_congr ⟨fun h => (congrArg Fin.val (congrFun h 0)).symm, fun h => congrArg ix1 (Fin.ext h.symm)⟩ rfl rfl

/-- After `k` steps. -/
theorem accum_apply (start k : ℕ) (i : Fin 16384) :
    accum (F := Ideal) val row col hr hc start k (ix1 i) = ∑ e ∈ Finset.range (16 * k), term val row col hc i (Fin.ofNat 2097152 (start + e)) := by
  induction k with
  | zero => exact Ideal.ofBits_zero_f32
  | succ k ih =>
    rw [accum, addLanes_apply, ih, Nat.mul_succ, Finset.sum_range_add]
    simp only [Nat.add_assoc]

/-- All thirty-two together. -/
theorem sum_parts (i : Fin 16384) : ∑ w : Fin 32, parts (F := Ideal) val row col hr hc (ix2 w i) = edgeSum val row col hc i := by
  have h : ∀ w : Fin 32, parts (F := Ideal) val row col hr hc (ix2 w i)
      = ∑ e ∈ Finset.range 65536, term val row col hc i (Fin.ofNat 2097152 (65536 * w.val + e)) := fun w =>
    accum_apply val row col hr hc (65536 * w.val) 4096 i
  rw [Finset.sum_congr rfl fun w _ => h w,
    Fin.sum_univ_eq_sum_range (fun w => ∑ e ∈ Finset.range 65536, term val row col hc i (Fin.ofNat 2097152 (65536 * w + e))) 32,
    sum_range_mul (fun e => term val row col hc i (Fin.ofNat 2097152 e)) 65536 32,
    ← Fin.sum_univ_eq_sum_range (fun e => term val row col hc i (Fin.ofNat 2097152 e)) 2097152]
  refine Finset.sum_congr rfl fun e _ => congrArg _ (Fin.ext ?_)
  exact Nat.mod_eq_of_lt e.isLt

end Cert.EdgeSums

end
-- ==== Proof.KernelValue.lean ====
/-
  What the kernel leaves in its result, over the ideal numbers: at row `n` and column `q`, the entry of `x` less the sum
  of the thirty-two partial means of `n`, times the inverse of the root of the sum of the thirty-two partial variances
  plus the constant.
-/
module

public import proofs.«01_k».proof.Proof.RunKernelIdeal
public import proofs.«01_k».proof.Proof.IdealSums
public import Idealize.ShloMosaic.Lib.Pipeline.Value
public import Idealize.ShloMosaic.Lib.Pointwise.Reduce
public import Idealize.ShloMosaic.Lib.Routing.Ops
public import Idealize.ShloMosaic.Lib.IdealHost

@[expose] public section

noncomputable section

open scoped BigOperators

namespace Cert.Proof.OfKernelIdeal

open Cert.KernelIdeal Cert.KernelIdeal.Gen
open Idealize.ShloMosaic hiding ix1 ix2
open Idealize.ShloMosaic.ValueIdx Idealize.ShloMosaic.TcCoe
open Idealize.ShloMosaic.Pipeline (Dat)

/-- The constant under the root. -/
abbrev epsI : EReal := Ideal.ofBits .f32 0x358637BD#32

/-- A vector cast to a column and spread over the columns, read at an index. -/
theorem spread_apply (v : FVec Ideal S2048 .f32) (p : Fin 2048) (q : Fin 64) :
    broadcastTo S2048x64 (shapeCast S2048x1 v shapeCasts_S2048_S2048x1) broadcasts_S2048x1_S2048x64 (ix2 p q) = v (ix1 p) := by
  rw [broadcastTo_apply _ broadcasts_S2048x1_S2048x64 (ix2 p q) (ix2 p (0 : Fin 1)) (fun a => by
    match a with
    | ⟨0, _⟩ => rfl
    | ⟨1, _⟩ => rfl)]
  exact Routing.cast12 v shapeCasts_S2048_S2048x1 p (0 : Fin 1) p (by show p.val = p.val * 1 + 0; omega)

/-- The sum of a block of partial sums over its thirty-two rows. -/
theorem rows_apply (a : Vec Ideal S32x2048 .f32) (p : Fin 2048) :
    multiReduction (F := Ideal) .add [0] S2048 a 0x00000000#32 reduces_S32x2048_S2048 (.inl rfl) rfl (ix1 p) = ∑ w : Fin 32, a (ix2 w p) :=
  Ideal.reduceAdd_r2_a0 reduces_S32x2048_S2048 a (ix1 p)

/-- The block the body writes, at an index. -/
theorem pay_apply (a b : Vec Ideal S32x2048 .f32) (x : Vec Ideal S2048x64 .f32) (p : Fin 2048) (q : Fin 64) :
    k1_pay1 (F := Ideal) a b x (ix2 p q)
      = (x (ix2 p q) - ∑ w : Fin 32, a (ix2 w p)) * Ideal.div 1 (Ideal.sqrt ((∑ w : Fin 32, b (ix2 w p)) + epsI)) := by
  have ea := rows_apply a p
  have eb := rows_apply b p
  unfold k1_pay1
  simp only [shapeCast_self]
  show (x (ix2 p q) - broadcastTo S2048x64 _ _ (ix2 p q)) * broadcastTo S2048x64 _ _ (ix2 p q) = _
  rw [spread_apply, spread_apply, ea]
  show _ * Ideal.div (Ideal.ofBits .f32 0x3F800000#32) (Ideal.sqrt (multiReduction (F := Ideal) .add [0] S2048 b 0x00000000#32 reduces_S32x2048_S2048 (.inl rfl) rfl (ix1 p) + epsI)) = _
  rw [eb, Ideal.ofBits_one_f32]

section Whole

variable (x : Dev nD → Vec Ideal S16384x64 .f32) (o : Dev nD → Vec Ideal S16384x64 .f32)
variable (mp vp : Dev nD → Vec Ideal S32x16384 .f32)

/-- The result as one function of the whole arrays. -/
def whole (c : Dev nD) : Vec Ideal S16384x64 .f32 := fun k =>
  (x c k - ∑ w : Fin 32, mp c (ix2 w (k 0 : Fin 16384)))
    * Ideal.div 1 (Ideal.sqrt ((∑ w : Fin 32, vp c (ix2 w (k 0 : Fin 16384))) + epsI))

theorem index_facts (t : Fin grid1.N) :
    win1_3.index t 0 * win1_3.size 0 = t.val * 2048 ∧ win1_3.xsize (grid1.coords t) 0 = 2048
      ∧ win1_3.index t 1 * win1_3.size 1 = 0 ∧ win1_3.xsize (grid1.coords t) 1 = 64
      ∧ win1_1.index t 0 * win1_1.size 0 = 0 ∧ win1_1.index t 1 * win1_1.size 1 = t.val * 2048
      ∧ win1_2.index t 0 * win1_2.size 0 = 0 ∧ win1_2.index t 1 * win1_2.size 1 = t.val * 2048 := by
  rcases fin_N1 t with rfl | rfl | rfl | rfl | rfl | rfl | rfl | rfl <;> decide +kernel

theorem lt_of_point (t : Fin cfg1.N) (p : Fin 2048) : t.val * 2048 + p.val < 16384 := by
  have h1 : t.val < 8 := N_1 ▸ t.isLt
  have := p.isLt
  omega

/-- A block of the partial means, at an index, is the array at the index shifted by the block's offset; -/
theorem mBlk_apply (c : Dev nD) (t : Fin cfg1.N) (w : Fin 32) (p : Fin 2048) :
    mBlk mp c t (ix2 w p) = mp c (ix2 w ⟨t.val * 2048 + p.val, lt_of_point t p⟩) := by
  show mp c _ = mp c _
  refine congrArg (mp c) (funext fun a => Fin.ext ?_)
  match a with
  | ⟨0, _⟩ =>
    show win1_1.index t 0 * win1_1.size 0 + 1 * w.val = w.val
    rw [(index_facts t).2.2.2.2.1]; omega
  | ⟨1, _⟩ =>
    show win1_1.index t 1 * win1_1.size 1 + 1 * p.val = t.val * 2048 + p.val
    rw [(index_facts t).2.2.2.2.2.1]; omega

/-- and so is a block of the partial variances. -/
theorem vBlk_apply (c : Dev nD) (t : Fin cfg1.N) (w : Fin 32) (p : Fin 2048) :
    vBlk vp c t (ix2 w p) = vp c (ix2 w ⟨t.val * 2048 + p.val, lt_of_point t p⟩) := by
  show vp c _ = vp c _
  refine congrArg (vp c) (funext fun a => Fin.ext ?_)
  match a with
  | ⟨0, _⟩ =>
    show win1_2.index t 0 * win1_2.size 0 + 1 * w.val = w.val
    rw [(index_facts t).2.2.2.2.2.2.1]; omega
  | ⟨1, _⟩ =>
    show win1_2.index t 1 * win1_2.size 1 + 1 * p.val = t.val * 2048 + p.val
    rw [(index_facts t).2.2.2.2.2.2.2]; omega

/-- What point `t` writes back is its block of the whole function. -/
theorem flushed_whole (c : Dev nD) (t : Fin cfg1.N) :
    (dats (F := Ideal) x o mp vp 0 c).flushed 3 t = ((cfg1.win 3).blk t).view.read (Elt Ideal) (whole x mp vp c) := by
  refine funext fun (j : S2048x64.Idx) => ?_
  obtain ⟨p, q, rfl⟩ : ∃ (p : Fin 2048) (q : Fin 64), j = ix2 p q :=
    ⟨j 0, j 1, funext fun a => by match a with | ⟨0, _⟩ => rfl | ⟨1, _⟩ => rfl⟩
  show k1_pay1 (F := Ideal) (mBlk mp c t) (vBlk vp c t) (xBlk x c t) (ix2 p q) = whole x mp vp c (((cfg1.win 3).blk t).view.emb (ix2 p q))
  rw [pay_apply]
  have e0 : ((((cfg1.win 3).blk t).view.emb (ix2 p q)) 0 : Fin 16384) = ⟨t.val * 2048 + p.val, lt_of_point t p⟩ := Fin.ext (by
    show win1_3.index t 0 * win1_3.size 0 + 1 * p.val = t.val * 2048 + p.val
    rw [(index_facts t).1]; omega)
  unfold whole
  rw [e0]
  simp only [mBlk_apply, vBlk_apply]
  rfl

/-- An index of the result lies in point `t`'s block when its row lies among the block's 2048 rows. -/
theorem mem_rows (t : Fin cfg1.N) (i : S16384x64.Idx) (h : t.val * 2048 ≤ (i 0 : Nat) ∧ (i 0 : Nat) < t.val * 2048 + 2048) :
    i ∈ ((cfg1.win 3).blk t).view.set := by
  show i ∈ ((View.whole main_v1).slice (win1_3.rect t)).set
  rw [View.set_slice_whole, Rect.mem_set_unit]
  have h1 : (i 1 : Nat) < 64 := (i 1).isLt
  obtain ⟨e0, e1, e2, e3, -⟩ := index_facts t
  intro a
  match a with
  | ⟨0, _⟩ =>
    show win1_3.index t 0 * win1_3.size 0 ≤ (i 0 : Nat) ∧ (i 0 : Nat) < win1_3.index t 0 * win1_3.size 0 + win1_3.xsize (grid1.coords t) 0
    rw [e0, e1]; exact h
  | ⟨1, _⟩ =>
    show win1_3.index t 1 * win1_3.size 1 ≤ (i 1 : Nat) ∧ (i 1 : Nat) < win1_3.index t 1 * win1_3.size 1 + win1_3.xsize (grid1.coords t) 1
    rw [e2, e3]; omega

/-- The blocks of the eight points are the whole result, -/
theorem rows_cover (i : S16384x64.Idx) : ∃ t : Fin cfg1.N, (cfg1.win 3).flush t = true ∧ i ∈ ((cfg1.win 3).blk t).view.set := by
  have h0 : (i 0 : Nat) < 16384 := (i 0).isLt
  have hN : cfg1.N = 8 := N_1
  have ht : (i 0 : Nat) / 2048 < cfg1.N := by omega
  refine ⟨⟨(i 0 : Nat) / 2048, ht⟩, flush1_3 _, mem_rows _ i ?_⟩
  dsimp only
  omega

/-- so the result is the whole function. -/
theorem result_eq (c : Dev nD) : result (F := Ideal) x o mp vp c = whole x mp vp c :=
  (dats (F := Ideal) x o mp vp 0 c).arrAt_eq_of_cover 3 (whole x mp vp c) (fun t _ => flushed_whole x o mp vp c t) rows_cover

end Whole

end Cert.Proof.OfKernelIdeal
-- ==== Proof.RefValue.lean ====
/-
  What the reference computes, over the ideal numbers, when the indices are in range: its two projections are the sums,
  over the edges, that the kernel's accumulators add up to, and its result is the quotient by the root.
-/
module

public import proofs.«01_k».proof.Proof.Gen.ReferenceIdeal.Read
public import proofs.«01_k».proof.Proof.IdealSums
public import Idealize.ShloMosaic.Lib.Pointwise.Index
public import Idealize.ShloMosaic.Lib.Routing.OpsPair
public import Idealize.ShloMosaic.Lib.ReduceAll
public import Idealize.ShloMosaic.Lib.WordCmp
public import Idealize.ShloMosaic.Lib.IdealHost

@[expose] public section

noncomputable section

open scoped BigOperators

namespace Cert.RefValue

open Cert.ReferenceIdeal Cert.ReferenceIdeal.Gen Cert.ReferenceIdeal.Read
open Cert.EdgeSums
open Idealize.ShloMosaic hiding ix1 ix2
open Idealize.ShloMosaic.ValueIdx

/-- The gather of the reference at edge `e`: the operand at the edge's start index, kept inside the operand. -/
theorem gather_at (x : S16384.Idx → EReal) (idx : IVec S2097152x1 32) (e : Fin 2097152) :
    Host.gather gather_S16384_S2097152x1_S2097152_n_0_n_n_0_1_1 x idx (ix1 e)
      = x (ix1 ⟨min (idx (ix2 e (0 : Fin 1))).toInt.toNat 16383, by omega⟩) := by
  unfold Host.gather
  refine congrArg x (funext fun a => Fin.ext ?_)
  obtain rfl : a = 0 := Subsingleton.elim _ _
  have hm : (0 : Fin 1) ∈ gather_S16384_S2097152x1_S2097152_n_0_n_n_0_1_1.startIndexMap := List.mem_singleton.2 rfl
  have hb : gather_S16384_S2097152x1_S2097152_n_0_n_n_0_1_1.batchCoord (ix1 e) 0 = 0 := GatherDims.batchCoord_eq_zero _ _ _ List.not_mem_nil
  have ho : gather_S16384_S2097152x1_S2097152_n_0_n_n_0_1_1.offCoord (ix1 e) 0 = 0 :=
    GatherDims.offCoord_eq_zero _ _ _ fun h => ((GatherDims.mem_sKept _ _).1 h).1 (List.mem_singleton.2 rfl)
  have hs : gather_S16384_S2097152x1_S2097152_n_0_n_n_0_1_1.siIdx (ix1 e) ⟨List.idxOf (0 : Fin 1) gather_S16384_S2097152x1_S2097152_n_0_n_n_0_1_1.startIndexMap, List.idxOf_lt_length_iff.2 hm⟩
      = ix2 e (0 : Fin 1) := by
    refine funext fun b => Fin.ext ?_
    match b with
    | ⟨0, _⟩ => rfl
    | ⟨1, _⟩ => rfl
  show gather_S16384_S2097152x1_S2097152_n_0_n_n_0_1_1.start (ix1 e) idx 0 + gather_S16384_S2097152x1_S2097152_n_0_n_n_0_1_1.batchCoord (ix1 e) 0
    + gather_S16384_S2097152x1_S2097152_n_0_n_n_0_1_1.offCoord (ix1 e) 0 = _
  rw [hb, ho]
  unfold GatherDims.start
  rw [dif_pos hm, hs]
  rfl

/-- Edge `e`'s update lands at neuron `i` exactly when the edge's index is `i`. -/
theorem lands_at (idx : IVec S2097152x1 32) (e : Fin 2097152) (i : Fin 16384) :
    scatter_S16384_S2097152x1_S2097152_n_0_0_1.resultIdx? (ix1 e) idx = some (ix1 i) ↔ (idx (ix2 e (0 : Fin 1))).toInt = (i.val : Int) := by
  have hm : (0 : Fin 1) ∈ scatter_S16384_S2097152x1_S2097152_n_0_0_1.scatterDimsToOperandDims := List.mem_singleton.2 rfl
  have hw : scatter_S16384_S2097152x1_S2097152_n_0_0_1.window (ix1 e) 0 = 0 := rfl
  have hs : scatter_S16384_S2097152x1_S2097152_n_0_0_1.start (ix1 e) idx 0 = (idx (ix2 e (0 : Fin 1))).toInt := by
    unfold ScatterDims.start
    rw [dif_pos hm]
    refine congrArg (fun k => (idx k).toInt) (funext fun b => Fin.ext ?_)
    match b with
    | ⟨0, _⟩ => rfl
    | ⟨1, _⟩ => rfl
  refine (Routing.resultIdx?_ix1 scatter_S16384_S2097152x1_S2097152_n_0_0_1 (ix1 e) idx i).trans ?_
  rw [hw, hs, Nat.cast_zero, add_zero]

variable (x1 : S16384.Idx → EReal) (row col : IVec S2097152 32)

/-- A word below 16384 is not negative, and reads the same signed as not. -/
theorem toInt_small {w : BitVec 32} (h : w.toNat < 16384) : w.toInt = (w.toNat : Int) :=
  WordCmp.toInt_eq_toNat_of_lt_half (lt_trans h (by norm_num))

/-- The column the reference gathers at is the edge's column, -/
theorem wrapped_col (hc : ∀ j, (col j).toNat < 16384) (j : S2097152.Idx) : val_main_call0_v4 (F := Ideal) col j = col j := by
  rw [val_main_call0_v4_apply, val_main_call0_v1_apply, val_main_call0_v0_apply, val_main_call0_c_apply, WordCmp.cmpi_slt_zero,
    decide_eq_false (not_le_of_gt (lt_trans (hc j) (by norm_num)))]
  rfl

theorem column_at (hc : ∀ j, (col j).toNat < 16384) (i : S2097152x1.Idx) :
    val_main_call0_v5 (F := Ideal) col i = col (idx_main_call0_v5 i) := by
  rw [val_main_call0_v5_apply, wrapped_col col hc]

/-- and it is never masked. -/
theorem unmasked (hc : ∀ j, (col j).toNat < 16384) (j : S2097152.Idx) : val_main_call0_v12 (F := Ideal) col j = 1#1 := by
  unfold val_main_call0_v12
  refine Host.reduce_andi_one _ _ reducesTo_S2097152x1_S2097152_d1 h_S_ j rfl fun i => ?_
  have h := hc (idx_main_call0_v5 i)
  rw [val_main_call0_v11_apply, val_main_call0_v7_apply, val_main_call0_v10_apply, column_at col hc, val_main_call0_v6_apply,
    val_main_call0_c_2_apply, val_main_call0_v9_apply, val_main_call0_v8_apply, val_main_call0_c_1_apply, WordCmp.cmpi_sge_zero,
    WordCmp.cmpi_sle_of_lt (lt_trans h (by norm_num)) (by decide), decide_eq_true (lt_trans h (by norm_num)),
    decide_eq_true (show (col (idx_main_call0_v5 i)).toNat ≤ (16383#32 : BitVec 32).toNat from Nat.le_of_lt_succ h)]
  rfl

/-- What the reference takes at edge `e`: the value at the edge's column. -/
theorem taken_at (hc : ∀ j, (col j).toNat < 16384) (e : Fin 2097152) :
    val_main_v0 (F := Ideal) x1 col (ix1 e) = x1 (ix1 ⟨(col (ix1 e)).toNat, hc _⟩) := by
  rw [val_main_v0_apply, unmasked col hc]
  refine (if_pos rfl).trans ?_
  unfold val_main_call0_v13
  refine (gather_at x1 _ e).trans (congrArg (fun k => x1 (ix1 k)) (Fin.ext ?_))
  show min (val_main_call0_v5 (F := Ideal) col (ix2 e (0 : Fin 1))).toInt.toNat 16383 = (col (ix1 e)).toNat
  have ei : idx_main_call0_v5 (ix2 e (0 : Fin 1)) = ix1 e := funext fun a => by match a with | ⟨0, _⟩ => rfl
  rw [column_at col hc, ei, toInt_small (hc _), Int.toNat_natCast]
  exact min_eq_left (Nat.le_of_lt_succ (hc _))

/-- Edge `e`'s update lands at neuron `i` exactly when the edge's row is `i`. -/
theorem lands_row (hr : ∀ j, (row j).toNat < 16384) (i : Fin 16384) (e : Fin 2097152) :
    scatter_S16384_S2097152x1_S2097152_n_0_0_1.resultIdx? (ix1 e) (val_main_v2 (F := Ideal) row) = some (ix1 i)
      ↔ (row (ix1 e)).toNat = i.val := by
  have ei : idx_main_v2 (ix2 e (0 : Fin 1)) = ix1 e := funext fun a => by match a with | ⟨0, _⟩ => rfl
  refine (lands_at _ e i).trans ?_
  rw [val_main_v2_apply, ei, toInt_small (hr _)]
  exact Nat.cast_inj

/-- The scatter starts from zeros, -/
theorem zeros_at (i : S16384.Idx) : val_main_v1 (F := Ideal) i = (0 : EReal) := by
  rw [val_main_v1_apply, val_main_cst_apply]
  exact Ideal.ofBits_zero_f32

/-- and adds to each entry the updates that land there. -/
theorem scatter_at (x : S16384.Idx → EReal) (idx : IVec S2097152x1 32) (upd : S2097152.Idx → EReal) (i : S16384.Idx) :
   Host.scatterAdd (F := Ideal) (φ := .f32) scatter_S16384_S2097152x1_S2097152_n_0_0_1 x idx upd i
    = x i + ∑ j ∈ Finset.univ.filter (fun j : S2097152.Idx => scatter_S16384_S2097152x1_S2097152_n_0_0_1.resultIdx? j idx = some i), upd j := by
  unfold Host.scatterAdd
  rw [Ideal.hostScatterAdd_def]
  unfold Ideal.hostScatterAdd
  rfl

/-- A sum over the edges' index type is one over their numbers. -/
theorem sum_edges (f : S2097152.Idx → EReal) (g : Fin 2097152 → EReal) (h : ∀ e, f (ix1 e) = g e) : ∑ j, f j = ∑ e, g e :=
  (sum_idx1 (n0 := 2097152) f).trans (Finset.sum_congr rfl fun e _ => h e)

/-- The reference's projection at neuron `i` is the sum over the edges. -/
theorem projected_at (hr : ∀ j, (row j).toNat < 16384) (hc : ∀ j, (col j).toNat < 16384) (i : Fin 16384) :
    val_main_v3 (F := Ideal) x1 row col (ix1 i) = edgeSum x1 row col hc i := by
  unfold val_main_v3
  refine (scatter_at _ _ _ _).trans ?_
  rw [zeros_at, zero_add, Finset.sum_filter]
  unfold edgeSum
  refine sum_edges _ _ fun e => ?_
  unfold term
  exact if_congr (lands_row row hr i e) (taken_at x1 col hc e) rfl

/-- The reference's second projection is the first one's text at the other array. -/
theorem second_projection (x2 : S16384.Idx → EReal) : val_main_v8 (F := Ideal) x2 row col = val_main_v3 (F := Ideal) x2 row col := by
  rfl

/-- The reference's result at row `n` and column `q`. -/
theorem result_at (x0 : S16384x64.Idx → EReal) (x2 : S16384.Idx → EReal) (hr : ∀ j, (row j).toNat < 16384) (hc : ∀ j, (col j).toNat < 16384)
    (n : Fin 16384) (q : Fin 64) :
    val_main_v16 (F := Ideal) x0 x1 x2 row col (ix2 n q)
      = Ideal.div (x0 (ix2 n q) - edgeSum x1 row col hc n) (Ideal.sqrt (edgeSum x2 row col hc n + Ideal.ofBits .f32 0x358637BD#32)) := by
  have e1 : idx_main_v4 (idx_main_v10 (ix2 n q)) = ix1 n := funext fun a => by match a with | ⟨0, _⟩ => rfl
  have e2 : idx_main_v9 (idx_main_v15 (ix2 n q)) = ix1 n := funext fun a => by match a with | ⟨0, _⟩ => rfl
  rw [val_main_v16_apply, val_main_v11_apply, val_main_v10_apply, val_main_v4_apply, val_main_v15_apply, val_main_v14_apply,
    val_main_v13_apply, val_main_v9_apply, val_main_v12_apply, e1, e2, second_projection, projected_at x1 row col hr hc, projected_at x2 row col hr hc]
  simp only [Ideal.hostDivf_def, Ideal.subf_def, Ideal.hostUnary_sqrt_def, Ideal.addf_def]
  rw [val_main_cst_1_apply]
  rfl

/-- The root of a number that is not zero is not zero. -/
theorem sqrt_ne_zero {v : EReal} (h : v ≠ 0) : Ideal.sqrt v ≠ 0 := by
  induction v with
  | bot => exact EReal.bot_ne_zero
  | top => exact EReal.top_ne_zero
  | coe r =>
    show (if r < 0 then (⊥ : EReal) else (Real.sqrt r : EReal)) ≠ 0
    split
    · exact EReal.bot_ne_zero
    · next hn =>
      have hr : r ≠ 0 := fun e => h (by rw [e]; rfl)
      exact fun e => (Real.sqrt_ne_zero'.2 (lt_of_le_of_ne (not_lt.1 hn) (Ne.symm hr))) (EReal.coe_eq_zero.1 e)

end Cert.RefValue
-- ==== Proof.Algebraic.lean ====
/-
  The value claim: over the ideal numbers, the kernel and the reference leave the same result, of arguments whose
  indices are in range and of which no divisor is zero.
-/
module

public import proofs.«01_k».proof.Proof.Frames
public import proofs.«01_k».proof.Proof.KernelValue
public import proofs.«01_k».proof.Proof.RefValue

@[expose] public section

noncomputable section

open scoped BigOperators

namespace Cert.Algebraic

open Cert.EdgeSums
open Idealize.ShloMosaic hiding ix1 ix2
open Idealize.ShloMosaic.ValueIdx

/-- The kernel's result at row `n` and column `q`, in the sums over the edges. -/
theorem final_at (m : (ℓ : Loc Cert.KernelIdeal.nD Cert.KernelIdeal.τ Cert.KernelIdeal.sig) → Buf (Elt Ideal) ℓ)
    (hp : Cert.Proof.OfKernelIdeal.PreOK m) (c : Dev Cert.KernelIdeal.nD) (n : Fin 16384) (q : Fin 64) :
    Cert.Proof.OfKernelIdeal.final m hp c (ix2 n q)
      = HSub.hSub (α := EReal) (β := EReal) (γ := EReal) (m (Cert.Proof.OfKernelIdeal.xLoc c) (ix2 n q))
          (edgeSum (m (Cert.Proof.OfKernelIdeal.meanLoc c)) (m (Cert.Proof.OfKernelIdeal.rowLoc c)) (m (Cert.Proof.OfKernelIdeal.colLoc c)) (hp c).2 n)
        * Ideal.div 1 (Ideal.sqrt (edgeSum (m (Cert.Proof.OfKernelIdeal.varLoc c)) (m (Cert.Proof.OfKernelIdeal.rowLoc c))
            (m (Cert.Proof.OfKernelIdeal.colLoc c)) (hp c).2 n + Ideal.ofBits .f32 0x358637BD#32)) := by
  have em := sum_parts (m (Cert.Proof.OfKernelIdeal.meanLoc c)) (m (Cert.Proof.OfKernelIdeal.rowLoc c)) (m (Cert.Proof.OfKernelIdeal.colLoc c)) (hp c).1 (hp c).2 n
  have ev := sum_parts (m (Cert.Proof.OfKernelIdeal.varLoc c)) (m (Cert.Proof.OfKernelIdeal.rowLoc c)) (m (Cert.Proof.OfKernelIdeal.colLoc c)) (hp c).1 (hp c).2 n
  rw [← em, ← ev]
  exact congrFun (Cert.Proof.OfKernelIdeal.result_eq (fun d => m (Cert.Proof.OfKernelIdeal.xLoc d)) (fun d => m (Cert.Proof.OfKernelIdeal.outLoc d))
    (Cert.Proof.OfKernelIdeal.meanParts m hp) (Cert.Proof.OfKernelIdeal.varParts m hp) c) (ix2 n q)

section Divisor

open Cert.Pre_nonzero_divisor Cert.Pre_nonzero_divisor.Gen

/-- The precondition's projection is the reference's. -/
theorem projected_pre (var : S16384.Idx → EReal) (row col : IVec S2097152 32) :
    Host.scatterAdd (F := Ideal) (φ := .f32) scatter_S16384_S2097152x1_S2097152_n_0_0_1
      (broadcastInDim S16384 ![] Facts.bcast_S_S16384 (constant (F := Ideal) S_ .f32 0x00000000#32))
      (broadcastInDim S2097152x1 ![0] Facts.bcast_S2097152_S2097152x1_0 row) (fn_take (F := Ideal) var col)
      = Cert.ReferenceIdeal.Read.val_main_v3 (F := Ideal) var row col := rfl

/-- No divisor is zero. -/
theorem divisor_ne_zero {x : S16384x64.Idx → EReal} {mean var : S16384.Idx → EReal} {row col : IVec S2097152 32}
    (h : fn (F := Ideal) x mean var row col = fun _ => 1#1) (hr : ∀ j, (row j).toNat < 16384) (hc : ∀ j, (col j).toNat < 16384) (n : Fin 16384) :
    edgeSum var row col hc n + Ideal.ofBits .f32 0x358637BD#32 ≠ 0 := by
  have h1 := (Cert.Ranges.of_nonzero_divisor h).2 (ix2 n (0 : Fin 1))
  rw [projected_pre, broadcastInDim_apply ![0] Facts.bcast_S16384_S16384x1_0 _ (ix2 n (0 : Fin 1)) (ix1 n) (fun a => by
    match a with
    | ⟨0, _⟩ => rfl), Cert.RefValue.projected_at var row col hr hc] at h1
  intro e
  have h2 : Ideal.cmp .une (edgeSum var row col hc n + Ideal.ofBits .f32 0x358637BD#32) (Ideal.ofBits .f32 0x00000000#32) = 1#1 := h1
  rw [e, Ideal.ofBits_zero_f32] at h2
  revert h2
  simp [Ideal.cmp]

end Divisor

/-- The two results are one. -/
theorem value_eq (m : (ℓ : Loc Cert.KernelIdeal.nD Cert.KernelIdeal.τ Cert.KernelIdeal.sig) → Buf (Elt Ideal) ℓ)
    (h : Cert.Pre_KernelIdeal_nonzero_divisor m) (c : Dev Cert.KernelIdeal.nD) :
    Cert.ReferenceIdeal.Read.val_main_v16 (F := Ideal) (m (Cert.Proof.OfKernelIdeal.xLoc c)) (m (Cert.Proof.OfKernelIdeal.meanLoc c))
      (m (Cert.Proof.OfKernelIdeal.varLoc c)) (m (Cert.Proof.OfKernelIdeal.rowLoc c)) (m (Cert.Proof.OfKernelIdeal.colLoc c))
      = Cert.Proof.OfKernelIdeal.final m (Cert.Frames.ok_nonzero h) c := by
  have hp := Cert.Frames.ok_nonzero h
  refine funext fun (k : Cert.KernelIdeal.S16384x64.Idx) => ?_
  obtain ⟨n, q, rfl⟩ : ∃ (n : Fin 16384) (q : Fin 64), k = ix2 n q :=
    ⟨k 0, k 1, funext fun a => by match a with | ⟨0, _⟩ => rfl | ⟨1, _⟩ => rfl⟩
  rw [final_at]
  refine (Cert.RefValue.result_at _ _ _ _ _ (hp c).1 (hp c).2 n q).trans ?_
  exact (Ideal.mul_one_div (Cert.RefValue.sqrt_ne_zero (divisor_ne_zero (h c) (hp c).1 (hp c).2 n))).symm

theorem algebraic : Cert.algebraic_KernelIdeal_ReferenceIdeal_pre_nonzero_divisor := fun m g m' g' h heq =>
  ⟨fun c => Cert.Proof.OfKernelIdeal.final m (Cert.Frames.ok_nonzero h) c,
    (θ_run Cert.KernelIdeal.defs _ _).mono (fun _ hr c => ⟨(hr.1 c).2, (hr.1 c).1⟩)
      (Cert.Proof.OfKernelIdeal.run_main m g (Cert.Frames.ok_nonzero h)),
    (θ_run Cert.ReferenceIdeal.defs _ _).mono (fun _ hr c => ⟨(hr c).1.trans (by
        rw [Cert.ReferenceIdeal.Read.val_main_v16_eq, (heq c).1, (heq c).2.1, (heq c).2.2.1, (heq c).2.2.2.1, (heq c).2.2.2.2]
        exact value_eq m h c), (hr c).2⟩)
      (Cert.ReferenceIdeal.Value.run (F := Ideal) m' g')⟩

end Cert.Algebraic
-- ==== Proof.lean ====
/- The certificate: the claims of Defs.lean, put together from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_nonzero_divisor
public import proofs.«01_k».proof.Proof.Gen.ReferenceIdeal.Read
public import proofs.«01_k».proof.Proof.Gen.ReferenceIdeal.Run
public import proofs.«01_k».proof.Proof.Frames
public import proofs.«01_k».proof.Proof.Algebraic

@[expose] public section

namespace Cert.Proof

/-- `Cert.Claim` (Defs.lean). -/
theorem claim : Cert.Claim :=
  ⟨Cert.Kernel.Gen.facts, Cert.KernelIdeal.Gen.facts, Cert.ReferenceIdeal.Gen.facts, Cert.Pre_in_range.Gen.facts,
    Cert.Pre_nonzero_divisor.Gen.facts, Cert.Frames.frame_kernel, Cert.Frames.frame_ideal, Cert.Frames.frame_ideal_nonzero,
    Cert.Frames.frame_reference, Cert.Frames.frame_reference_nonzero, trivial, Cert.Algebraic.algebraic⟩

end Cert.Proof
